-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 8192]⟩ ⟨2, ![4096, 16384]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S_ : Shape := ⟨0, ![]⟩
abbrev S2048x8192 : Shape := ⟨2, ![2048, 8192]⟩
abbrev S2048x4096 : Shape := ⟨2, ![2048, 4096]⟩
abbrev S1024x1024 : Shape := ⟨2, ![1024, 1024]⟩
abbrev S2048x1024 : Shape := ⟨2, ![2048, 1024]⟩
abbrev S1024x2048 : Shape := ⟨2, ![1024, 2048]⟩
abbrev S4096x4096 : Shape := ⟨2, ![4096, 4096]⟩
abbrev S2x256x4096 : Shape := ⟨3, ![2, 256, 4096]⟩
abbrev S2 : Shape := ⟨1, ![2]⟩
abbrev S1 : Shape := ⟨1, ![1]⟩
abbrev S1x256x4096 : Shape := ⟨3, ![1, 256, 4096]⟩
abbrev S256x4096 : Shape := ⟨2, ![256, 4096]⟩

abbrev nBuf : Space → Nat
  | .hbm => 19
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2048x8192, .f32⟩
  | .hbm, ⟨17, _⟩ => ⟨S2048x4096, .f32⟩
  | .hbm, ⟨18, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .f32⟩
  | .local _ .vmem, ⟨3, _⟩ => ⟨S2048x1024, .f32⟩
  | .local _ .vmem, ⟨4, _⟩ => ⟨S1024x2048, .f32⟩
  | .local _ .vmem, ⟨5, _⟩ => ⟨S1024x2048, .f32⟩
  | .local _ .vmem, ⟨6, _⟩ => ⟨S2x256x4096, .f32⟩
  | .local _ .vmem, ⟨7, _⟩ => ⟨S2x256x4096, .f32⟩
  | .local _ .vmem, ⟨8, _⟩ => ⟨S2x256x4096, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 5 18 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .tc := ⟨.vmem, 6, rfl⟩
abbrev cc1_scratch1 : Ref sig .tc := ⟨.vmem, 7, rfl⟩
abbrev cc1_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev barrier0 : Sem sig := 4

abbrev nD : Nat := 4
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := .none

def k1_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k1_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k1_dev3 (d0 : Dev nD) : Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_17 : BitVec 32 := 2#32
  let v20 : BitVec 32 := Scalar.muli v2 c2_i32_17
  let v21 : BitVec 32 := Scalar.addi c0_i32_18 v20
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_19 : BitVec 32 := 1#32
  let v22 : BitVec 32 := Scalar.muli v6 c1_i32_19
  let v23 : BitVec 32 := Scalar.addi v21 v22
  v23.toNat
def k1_dev4 (d0 : Dev nD) : Nat :=
  let c0_i32_57 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_56 : BitVec 32 := 2#32
  let v60 : BitVec 32 := Scalar.muli v2 c2_i32_56
  let v61 : BitVec 32 := Scalar.addi c0_i32_57 v60
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_58 : BitVec 32 := 1#32
  let v62 : BitVec 32 := Scalar.muli v6 c1_i32_58
  let v63 : BitVec 32 := Scalar.addi v61 v62
  v63.toNat
def k1_off1 (d0 : Dev nD) (c0_i32_59 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v64 : BitVec 32 := Scalar.addi v17 c0_i32_59
  let c0_i32_66 : BitVec 32 := 0#32
  ![v64.toNat, 0]
def k1_dev5 (d0 : Dev nD) : Nat :=
  let c0_i32_64 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_63 : BitVec 32 := 2#32
  let v65 : BitVec 32 := Scalar.muli v7 c2_i32_63
  let v66 : BitVec 32 := Scalar.addi c0_i32_64 v65
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_65 : BitVec 32 := 1#32
  let v67 : BitVec 32 := Scalar.muli v5 c1_i32_65
  let v68 : BitVec 32 := Scalar.addi v66 v67
  v68.toNat
def k1_off2 (d0 : Dev nD) (c0_i32_75 : BitVec 32) : Fin 2 → Nat :=
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c2048_i32_13 : BitVec 32 := 2048#32
  let v19 : BitVec 32 := Scalar.muli v18 c2048_i32_13
  let v82 : BitVec 32 := Scalar.addi v19 c0_i32_75
  let c0_i32_82 : BitVec 32 := 0#32
  ![v82.toNat, 0]
def k1_dev6 (d0 : Dev nD) : Nat :=
  let c0_i32_88 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_87 : BitVec 32 := 2#32
  let v94 : BitVec 32 := Scalar.muli v7 c2_i32_87
  let v95 : BitVec 32 := Scalar.addi c0_i32_88 v94
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v96 : BitVec 32 := Scalar.muli v5 c1_i32_89
  let v97 : BitVec 32 := Scalar.addi v95 v96
  v97.toNat
def k1_dev7 (d0 : Dev nD) : Nat :=
  let c0_i32_94 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_93 : BitVec 32 := 2#32
  let v98 : BitVec 32 := Scalar.muli v2 c2_i32_93
  let v99 : BitVec 32 := Scalar.addi c0_i32_94 v98
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_95 : BitVec 32 := 1#32
  let v100 : BitVec 32 := Scalar.muli v6 c1_i32_95
  let v101 : BitVec 32 := Scalar.addi v99 v100
  v101.toNat
def k1_dev8 (d0 : Dev nD) : Nat :=
  let c0_i32_132 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_131 : BitVec 32 := 2#32
  let v138 : BitVec 32 := Scalar.muli v2 c2_i32_131
  let v139 : BitVec 32 := Scalar.addi c0_i32_132 v138
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_133 : BitVec 32 := 1#32
  let v140 : BitVec 32 := Scalar.muli v6 c1_i32_133
  let v141 : BitVec 32 := Scalar.addi v139 v140
  v141.toNat
def k1_dev9 (d0 : Dev nD) : Nat :=
  let c0_i32_139 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_138 : BitVec 32 := 2#32
  let v143 : BitVec 32 := Scalar.muli v7 c2_i32_138
  let v144 : BitVec 32 := Scalar.addi c0_i32_139 v143
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_140 : BitVec 32 := 1#32
  let v145 : BitVec 32 := Scalar.muli v5 c1_i32_140
  let v146 : BitVec 32 := Scalar.addi v144 v145
  v146.toNat
def k1_dev10 (d0 : Dev nD) : Nat :=
  let c0_i32_163 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_162 : BitVec 32 := 2#32
  let v172 : BitVec 32 := Scalar.muli v7 c2_i32_162
  let v173 : BitVec 32 := Scalar.addi c0_i32_163 v172
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_164 : BitVec 32 := 1#32
  let v174 : BitVec 32 := Scalar.muli v5 c1_i32_164
  let v175 : BitVec 32 := Scalar.addi v173 v174
  v175.toNat
def k1_dev11 (d0 : Dev nD) : Nat :=
  let c0_i32_180 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_179 : BitVec 32 := 2#32
  let v183 : BitVec 32 := Scalar.muli v2 c2_i32_179
  let v184 : BitVec 32 := Scalar.addi c0_i32_180 v183
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_181 : BitVec 32 := 1#32
  let v185 : BitVec 32 := Scalar.muli v6 c1_i32_181
  let v186 : BitVec 32 := Scalar.addi v184 v185
  v186.toNat
def k1_dev12 (d0 : Dev nD) : Nat :=
  let c0_i32_234 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_233 : BitVec 32 := 2#32
  let v235 : BitVec 32 := Scalar.muli v2 c2_i32_233
  let v236 : BitVec 32 := Scalar.addi c0_i32_234 v235
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_235 : BitVec 32 := 1#32
  let v237 : BitVec 32 := Scalar.muli v6 c1_i32_235
  let v238 : BitVec 32 := Scalar.addi v236 v237
  v238.toNat
def k1_dev13 (d0 : Dev nD) : Nat :=
  let c0_i32_241 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_240 : BitVec 32 := 2#32
  let v240 : BitVec 32 := Scalar.muli v7 c2_i32_240
  let v241 : BitVec 32 := Scalar.addi c0_i32_241 v240
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_242 : BitVec 32 := 1#32
  let v242 : BitVec 32 := Scalar.muli v5 c1_i32_242
  let v243 : BitVec 32 := Scalar.addi v241 v242
  v243.toNat
def k1_dev14 (d0 : Dev nD) : Nat :=
  let c0_i32_265 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_264 : BitVec 32 := 2#32
  let v269 : BitVec 32 := Scalar.muli v7 c2_i32_264
  let v270 : BitVec 32 := Scalar.addi c0_i32_265 v269
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_266 : BitVec 32 := 1#32
  let v271 : BitVec 32 := Scalar.muli v5 c1_i32_266
  let v272 : BitVec 32 := Scalar.addi v270 v271
  v272.toNat
def k1_dev15 (d0 : Dev nD) : Nat :=
  let c0_i32_282 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_281 : BitVec 32 := 2#32
  let v280 : BitVec 32 := Scalar.muli v2 c2_i32_281
  let v281 : BitVec 32 := Scalar.addi c0_i32_282 v280
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_283 : BitVec 32 := 1#32
  let v282 : BitVec 32 := Scalar.muli v6 c1_i32_283
  let v283 : BitVec 32 := Scalar.addi v281 v282
  v283.toNat
def k1_dev16 (d0 : Dev nD) : Nat :=
  let c0_i32_336 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_335 : BitVec 32 := 2#32
  let v332 : BitVec 32 := Scalar.muli v2 c2_i32_335
  let v333 : BitVec 32 := Scalar.addi c0_i32_336 v332
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_337 : BitVec 32 := 1#32
  let v334 : BitVec 32 := Scalar.muli v6 c1_i32_337
  let v335 : BitVec 32 := Scalar.addi v333 v334
  v335.toNat
def k1_dev17 (d0 : Dev nD) : Nat :=
  let c0_i32_343 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_342 : BitVec 32 := 2#32
  let v337 : BitVec 32 := Scalar.muli v7 c2_i32_342
  let v338 : BitVec 32 := Scalar.addi c0_i32_343 v337
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_344 : BitVec 32 := 1#32
  let v339 : BitVec 32 := Scalar.muli v5 c1_i32_344
  let v340 : BitVec 32 := Scalar.addi v338 v339
  v340.toNat
def k1_dev18 (d0 : Dev nD) : Nat :=
  let c0_i32_367 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_366 : BitVec 32 := 2#32
  let v366 : BitVec 32 := Scalar.muli v7 c2_i32_366
  let v367 : BitVec 32 := Scalar.addi c0_i32_367 v366
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_368 : BitVec 32 := 1#32
  let v368 : BitVec 32 := Scalar.muli v5 c1_i32_368
  let v369 : BitVec 32 := Scalar.addi v367 v368
  v369.toNat
def k1_dev19 (d0 : Dev nD) : Nat :=
  let c0_i32_384 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_383 : BitVec 32 := 2#32
  let v377 : BitVec 32 := Scalar.muli v2 c2_i32_383
  let v378 : BitVec 32 := Scalar.addi c0_i32_384 v377
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_385 : BitVec 32 := 1#32
  let v379 : BitVec 32 := Scalar.muli v6 c1_i32_385
  let v380 : BitVec 32 := Scalar.addi v378 v379
  v380.toNat
def k1_dev20 (d0 : Dev nD) : Nat :=
  let c0_i32_438 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_437 : BitVec 32 := 2#32
  let v429 : BitVec 32 := Scalar.muli v2 c2_i32_437
  let v430 : BitVec 32 := Scalar.addi c0_i32_438 v429
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_439 : BitVec 32 := 1#32
  let v431 : BitVec 32 := Scalar.muli v6 c1_i32_439
  let v432 : BitVec 32 := Scalar.addi v430 v431
  v432.toNat
def k1_dev21 (d0 : Dev nD) : Nat :=
  let c0_i32_445 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_444 : BitVec 32 := 2#32
  let v434 : BitVec 32 := Scalar.muli v7 c2_i32_444
  let v435 : BitVec 32 := Scalar.addi c0_i32_445 v434
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_446 : BitVec 32 := 1#32
  let v436 : BitVec 32 := Scalar.muli v5 c1_i32_446
  let v437 : BitVec 32 := Scalar.addi v435 v436
  v437.toNat
def k1_dev22 (d0 : Dev nD) : Nat :=
  let c0_i32_469 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_468 : BitVec 32 := 2#32
  let v463 : BitVec 32 := Scalar.muli v7 c2_i32_468
  let v464 : BitVec 32 := Scalar.addi c0_i32_469 v463
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_470 : BitVec 32 := 1#32
  let v465 : BitVec 32 := Scalar.muli v5 c1_i32_470
  let v466 : BitVec 32 := Scalar.addi v464 v465
  v466.toNat
def k1_dev23 (d0 : Dev nD) : Nat :=
  let c0_i32_486 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_485 : BitVec 32 := 2#32
  let v474 : BitVec 32 := Scalar.muli v2 c2_i32_485
  let v475 : BitVec 32 := Scalar.addi c0_i32_486 v474
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_487 : BitVec 32 := 1#32
  let v476 : BitVec 32 := Scalar.muli v6 c1_i32_487
  let v477 : BitVec 32 := Scalar.addi v475 v476
  v477.toNat
def k1_dev24 (d0 : Dev nD) : Nat :=
  let c0_i32_540 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_539 : BitVec 32 := 2#32
  let v526 : BitVec 32 := Scalar.muli v2 c2_i32_539
  let v527 : BitVec 32 := Scalar.addi c0_i32_540 v526
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_541 : BitVec 32 := 1#32
  let v528 : BitVec 32 := Scalar.muli v6 c1_i32_541
  let v529 : BitVec 32 := Scalar.addi v527 v528
  v529.toNat
def k1_dev25 (d0 : Dev nD) : Nat :=
  let c0_i32_547 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_546 : BitVec 32 := 2#32
  let v531 : BitVec 32 := Scalar.muli v7 c2_i32_546
  let v532 : BitVec 32 := Scalar.addi c0_i32_547 v531
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_548 : BitVec 32 := 1#32
  let v533 : BitVec 32 := Scalar.muli v5 c1_i32_548
  let v534 : BitVec 32 := Scalar.addi v532 v533
  v534.toNat
def k1_dev26 (d0 : Dev nD) : Nat :=
  let c0_i32_571 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_570 : BitVec 32 := 2#32
  let v560 : BitVec 32 := Scalar.muli v7 c2_i32_570
  let v561 : BitVec 32 := Scalar.addi c0_i32_571 v560
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_572 : BitVec 32 := 1#32
  let v562 : BitVec 32 := Scalar.muli v5 c1_i32_572
  let v563 : BitVec 32 := Scalar.addi v561 v562
  v563.toNat
def k1_dev27 (d0 : Dev nD) : Nat :=
  let c0_i32_588 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_587 : BitVec 32 := 2#32
  let v571 : BitVec 32 := Scalar.muli v2 c2_i32_587
  let v572 : BitVec 32 := Scalar.addi c0_i32_588 v571
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_589 : BitVec 32 := 1#32
  let v573 : BitVec 32 := Scalar.muli v6 c1_i32_589
  let v574 : BitVec 32 := Scalar.addi v572 v573
  v574.toNat
def k1_dev28 (d0 : Dev nD) : Nat :=
  let c0_i32_644 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_643 : BitVec 32 := 2#32
  let v622 : BitVec 32 := Scalar.muli v7 c2_i32_643
  let v623 : BitVec 32 := Scalar.addi c0_i32_644 v622
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_645 : BitVec 32 := 1#32
  let v624 : BitVec 32 := Scalar.muli v5 c1_i32_645
  let v625 : BitVec 32 := Scalar.addi v623 v624
  v625.toNat
def k1_dev29 (d0 : Dev nD) : Nat :=
  let c0_i32_680 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_679 : BitVec 32 := 2#32
  let v656 : BitVec 32 := Scalar.muli v2 c2_i32_679
  let v657 : BitVec 32 := Scalar.addi c0_i32_680 v656
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_681 : BitVec 32 := 1#32
  let v658 : BitVec 32 := Scalar.muli v6 c1_i32_681
  let v659 : BitVec 32 := Scalar.addi v657 v658
  v659.toNat
def k1_dev30 (d0 : Dev nD) : Nat :=
  let c0_i32_736 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_735 : BitVec 32 := 2#32
  let v707 : BitVec 32 := Scalar.muli v7 c2_i32_735
  let v708 : BitVec 32 := Scalar.addi c0_i32_736 v707
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_737 : BitVec 32 := 1#32
  let v709 : BitVec 32 := Scalar.muli v5 c1_i32_737
  let v710 : BitVec 32 := Scalar.addi v708 v709
  v710.toNat
-- ==== ReferenceIdeal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S16384x4096, .f32⟩
  | .hbm, ⟨3, _⟩ => ⟨S4096x4096, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.CommProg.lean ====
/-
  The communication kernel written as eight equal trips.

  The printed body is one straight line of statements. Here it is a prologue (a barrier with the two neighbours), then
  the trip `chunk k` for k = 0, ..., 7, then the waits that are left. Trip k carries rows 256 k, ..., 256 k + 255 of the
  device's half product and works in slot k mod 2 of the three scratch buffers and of the semaphore arrays.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.KernelIdeal.Comm

open Idealize.ShloMosaic Idealize.ShloMosaic.TcCoe Idealize.SL.Sem Cert.KernelIdeal.Gen

variable {F : FTy → Type} [FloatOps F]

/-- A program of the kernel. -/
abbrev Pr (F : FTy → Type) : Type 1 := Prog (TpuEff nD τ sig (Elt F) Λ₀ .tc) PUnit

/-- The slot of trip k. -/
abbrev slotOf (k : Fin 8) : Fin 2 := ⟨k.val % 2, Nat.mod_lt _ (by decide)⟩

/-! ## The semaphores, by slot -/

abbrev semQ (s : Fin 2) : DmaSem sig := ⟨6 + s.val, by have := s.isLt; show 6 + s.val < 18; omega⟩
abbrev sendY (s : Fin 2) : DmaSem sig := ⟨8 + s.val, by have := s.isLt; show 8 + s.val < 18; omega⟩
abbrev recvY (s : Fin 2) : DmaSem sig := ⟨10 + s.val, by have := s.isLt; show 10 + s.val < 18; omega⟩
abbrev sendX (s : Fin 2) : DmaSem sig := ⟨12 + s.val, by have := s.isLt; show 12 + s.val < 18; omega⟩
abbrev recvX (s : Fin 2) : DmaSem sig := ⟨14 + s.val, by have := s.isLt; show 14 + s.val < 18; omega⟩
abbrev store (s : Fin 2) : DmaSem sig := ⟨16 + s.val, by have := s.isLt; show 16 + s.val < 18; omega⟩
abbrev credY (s : Fin 2) : Sem sig := ⟨0 + s.val, by have := s.isLt; show 0 + s.val < 5; omega⟩
abbrev credX (s : Fin 2) : Sem sig := ⟨2 + s.val, by have := s.isLt; show 2 + s.val < 5; omega⟩
abbrev barS : Sem sig := ⟨4, by decide⟩

/-! ## The views -/

theorem q_inb (k : Fin 8) : ∀ a, (![256 * k.val, 0] : Fin 2 → Nat) a + S256x4096.size a ≤ S2048x4096.size a := by
  revert k; decide
theorem slot_inb (s : Fin 2) : ∀ a, (![s.val, 0, 0] : Fin 3 → Nat) a + S1x256x4096.size a ≤ S2x256x4096.size a := by
  revert s; decide

/-- Rows 256 k, ..., 256 k + 255 of the half product. -/
abbrev qM (k : Fin 8) : Memref sig .tc .hbm S256x4096 .f32 :=
  (Memref.whole main_v10).slice (Rect.unit (s := S2048x4096) ![256 * k.val, 0] S256x4096.size (q_inb k)) (fun _ => rfl)
/-- Slot s of the buffer b, as a 256 x 4096 block. -/
abbrev slotM (b : Memref sig .tc .vmem S2x256x4096 .f32) (s : Fin 2) : Memref sig .tc .vmem S256x4096 .f32 :=
  (b.slice (Rect.unit (s := S2x256x4096) ![s.val, 0, 0] S1x256x4096.size (slot_inb s)) (fun _ => rfl)).squeeze S256x4096 squeezes_S1x256x4096_S256x4096
abbrev ownM (s : Fin 2) : Memref sig .tc .vmem S256x4096 .f32 := slotM (Memref.whole cc1_scratch0) s
abbrev landM (s : Fin 2) : Memref sig .tc .vmem S256x4096 .f32 := slotM (Memref.whole cc1_scratch1) s
abbrev sumM (s : Fin 2) : Memref sig .tc .vmem S256x4096 .f32 := slotM (Memref.whole cc1_scratch2) s
/-- The rows of the result that device d's trip k computes; and those that trip k receives. -/
abbrev outM (d : Dev nD) (k : Fin 8) : Memref sig .tc .hbm S256x4096 .f32 :=
  (Memref.whole main_v11).slice (Rect.unit (s := S4096x4096) (k1_off1 d (BitVec.ofNat 32 (256 * k.val))) S256x4096.size (k1_off1_inb d k)) (fun _ => rfl)
abbrev inM (d : Dev nD) (k : Fin 8) : Memref sig .tc .hbm S256x4096 .f32 :=
  (Memref.whole main_v11).slice (Rect.unit (s := S4096x4096) (k1_off2 d (BitVec.ofNat 32 (256 * k.val))) S256x4096.size (k1_off2_inb d k)) (fun _ => rfl)
/-- The rectangle a load or store of slot s goes through. -/
abbrev slotR (s : Fin 2) : Rect S2x256x4096 := Rect.unit (s := S2x256x4096) ![s.val, 0, 0] S1x256x4096.size (slot_inb s)

/-- The sum of two blocks as the kernel forms it. -/
def sumPay (a b : Vec F S1x256x4096 .f32) : FVec F S1x256x4096 .f32 := k1_pay2 (k1_pay1 a b)

/-! ## The pieces of a trip -/

/-- Waits that free what the trip before last left in flight on the first hop, and take the neighbour's leave to send. -/
def drainY (k : Fin 8) (K : Pr F) : Pr F :=
  if h : 2 ≤ k.val then
    .op (.waitDma2 (sendY (slotOf k)) (landM (slotOf k)) (qM ⟨k.val - 2, by omega⟩) ((View.wordExact_bits rfl).reshape _ _) (View.wordExact_bits rfl)) fun _ =>
    .op (.semWait (credY (slotOf k)) ((1 : ℕ) : ℤ)) fun _ => K
  else K

/-- The same on the second hop, with the wait for the rows stored two trips ago. -/
def drainX (d : Dev nD) (k : Fin 8) (K : Pr F) : Pr F :=
  if h : 2 ≤ k.val then
    .op (.waitDma2 (sendX (slotOf k)) (outM d ⟨k.val - 2, by omega⟩) (sumM (slotOf k)) (View.wordExact_bits rfl) ((View.wordExact_bits rfl).reshape _ _)) fun _ =>
    .op (.waitDma2 (store (slotOf k)) (sumM (slotOf k)) (outM d ⟨k.val - 2, by omega⟩) ((View.wordExact_bits rfl).reshape _ _) (View.wordExact_bits rfl)) fun _ =>
    .op (.semWait (credX (slotOf k)) ((1 : ℕ) : ℤ)) fun _ => K
  else K

/-- Leave to send again, given to a neighbour while trips remain that reuse the slot. -/
def grant (k : Fin 8) (sem : Sem sig) (e : Dev nD) (K : Pr F) : Pr F :=
  if k.val ≤ 5 then .op (.semSignal (Dev.tc e) sem ((1 : ℕ) : ℤ)) fun _ => K else K

/-- The trip's two sends of the half product: to the neighbour e across, and into the device's own scratch. -/
def sendQ (k : Fin 8) (e : Dev nD) (K : Pr F) : Pr F :=
  .op (.enqueueDma (qM k) (.remote (Dev.tc e) (landM (slotOf k)) (.dma (sendY (slotOf k)))) (.dma (recvY (slotOf k))) (View.wordExact_bits rfl) ((View.wordExact_bits rfl).reshape _ _) ⟨⟨rfl, Or.inl rfl⟩, trivial⟩) fun _ =>
  .op (.enqueueDma (qM k) (.here (ownM (slotOf k))) (.dma (semQ (slotOf k))) (View.wordExact_bits rfl) ((View.wordExact_bits rfl).reshape _ _) ⟨Or.inl rfl, trivial⟩) fun _ => K

/-- The two arrivals, and their sum stored. -/
def addUp (k : Fin 8) (K : Pr F) : Pr F :=
  .op (.waitDma2 (recvY (slotOf k)) (qM k) (landM (slotOf k)) (View.wordExact_bits rfl) ((View.wordExact_bits rfl).reshape _ _)) fun _ =>
  .op (.waitDma2 (semQ (slotOf k)) (qM k) (ownM (slotOf k)) (View.wordExact_bits rfl) ((View.wordExact_bits rfl).reshape _ _)) fun _ =>
  .op (.load (Memref.whole cc1_scratch0) (slotR (slotOf k)).toLoadRect (View.loadsAt_vmem h_S1x256x4096)) fun a =>
  .op (.load (Memref.whole cc1_scratch1) (slotR (slotOf k)).toLoadRect (View.loadsAt_vmem h_S1x256x4096)) fun b =>
  .op (.load (Memref.whole cc1_scratch2) (slotR (slotOf k)).toLoadRect (View.loadsAt_vmem h_S1x256x4096)) fun _ =>
  .op (.store (Memref.whole cc1_scratch2) (slotR (slotOf k)) (sumPay a b) Finset.univ (View.stores_vmem_bits_univ h_S1x256x4096 rfl) (.inl rfl)) fun _ => K

/-- The two sends of the sum: to the neighbour e of the other half, and into the device's own result. -/
def sendSum (d : Dev nD) (k : Fin 8) (e : Dev nD) (K : Pr F) : Pr F :=
  .op (.enqueueDma (sumM (slotOf k)) (.remote (Dev.tc e) (outM d k) (.dma (sendX (slotOf k)))) (.dma (recvX (slotOf k))) ((View.wordExact_bits rfl).reshape _ _) (View.wordExact_bits rfl) ⟨⟨rfl, Or.inl rfl⟩, trivial⟩) fun _ =>
  .op (.enqueueDma (sumM (slotOf k)) (.here (outM d k)) (.dma (store (slotOf k))) ((View.wordExact_bits rfl).reshape _ _) (View.wordExact_bits rfl) ⟨Or.inl rfl, trivial⟩) fun _ => K

/-- The arrival of the other half's rows. -/
def takeIn (d : Dev nD) (k : Fin 8) (K : Pr F) : Pr F :=
  .op (.waitDma2 (recvX (slotOf k)) (sumM (slotOf k)) (inM d k) ((View.wordExact_bits rfl).reshape _ _) (View.wordExact_bits rfl)) fun _ => K

/-- Trip k on device d: y and y' name the neighbour of the first hop, x and x' that of the second. -/
def chunk (d : Dev nD) (k : Fin 8) (y y' x x' : Dev nD) (K : Pr F) : Pr F :=
  drainY k <| sendQ k y <| drainX d k <| addUp k <| grant k (credY (slotOf k)) y' <| sendSum d k x <| takeIn d k <| grant k (credX (slotOf k)) x' K

/-- The waits left for trip k after the last trip. -/
def last (d : Dev nD) (k : Fin 8) (K : Pr F) : Pr F :=
  .op (.waitDma2 (sendY (slotOf k)) (landM (slotOf k)) (qM k) ((View.wordExact_bits rfl).reshape _ _) (View.wordExact_bits rfl)) fun _ =>
  .op (.waitDma2 (sendX (slotOf k)) (outM d k) (sumM (slotOf k)) (View.wordExact_bits rfl) ((View.wordExact_bits rfl).reshape _ _)) fun _ =>
  .op (.waitDma2 (store (slotOf k)) (sumM (slotOf k)) (outM d k) ((View.wordExact_bits rfl).reshape _ _) (View.wordExact_bits rfl)) fun _ => K

/-- The barrier with the neighbours y and x. -/
def barrier (y x : Dev nD) (K : Pr F) : Pr F :=
  .op (.semSignal (Dev.tc y) barS ((1 : ℕ) : ℤ)) fun _ =>
  .op (.semSignal (Dev.tc x) barS ((1 : ℕ) : ℤ)) fun _ =>
  .op (.semWait barS ((2 : ℕ) : ℤ)) fun _ => K

/-- The whole kernel, on the devices the printed program computes. -/
def commPrinted : Pr F :=
  .op .deviceId fun d =>
  barrier ⟨k1_dev1 d, k1_dev1_lt d⟩ ⟨k1_dev2 d, k1_dev2_lt d⟩ <|
  chunk d 0 ⟨k1_dev3 d, k1_dev3_lt d⟩ ⟨k1_dev4 d, k1_dev4_lt d⟩ ⟨k1_dev5 d, k1_dev5_lt d⟩ ⟨k1_dev6 d, k1_dev6_lt d⟩ <|
  chunk d 1 ⟨k1_dev7 d, k1_dev7_lt d⟩ ⟨k1_dev8 d, k1_dev8_lt d⟩ ⟨k1_dev9 d, k1_dev9_lt d⟩ ⟨k1_dev10 d, k1_dev10_lt d⟩ <|
  chunk d 2 ⟨k1_dev11 d, k1_dev11_lt d⟩ ⟨k1_dev12 d, k1_dev12_lt d⟩ ⟨k1_dev13 d, k1_dev13_lt d⟩ ⟨k1_dev14 d, k1_dev14_lt d⟩ <|
  chunk d 3 ⟨k1_dev15 d, k1_dev15_lt d⟩ ⟨k1_dev16 d, k1_dev16_lt d⟩ ⟨k1_dev17 d, k1_dev17_lt d⟩ ⟨k1_dev18 d, k1_dev18_lt d⟩ <|
  chunk d 4 ⟨k1_dev19 d, k1_dev19_lt d⟩ ⟨k1_dev20 d, k1_dev20_lt d⟩ ⟨k1_dev21 d, k1_dev21_lt d⟩ ⟨k1_dev22 d, k1_dev22_lt d⟩ <|
  chunk d 5 ⟨k1_dev23 d, k1_dev23_lt d⟩ ⟨k1_dev24 d, k1_dev24_lt d⟩ ⟨k1_dev25 d, k1_dev25_lt d⟩ ⟨k1_dev26 d, k1_dev26_lt d⟩ <|
  chunk d 6 ⟨k1_dev27 d, k1_dev27_lt d⟩ ⟨k1_dev27 d, k1_dev27_lt d⟩ ⟨k1_dev28 d, k1_dev28_lt d⟩ ⟨k1_dev28 d, k1_dev28_lt d⟩ <|
  chunk d 7 ⟨k1_dev29 d, k1_dev29_lt d⟩ ⟨k1_dev29 d, k1_dev29_lt d⟩ ⟨k1_dev30 d, k1_dev30_lt d⟩ ⟨k1_dev30 d, k1_dev30_lt d⟩ <|
  last d 6 <| last d 7 <| .ret ⟨⟩

set_option maxRecDepth 65536 in
/-- The printed body is these trips, by definitional unfolding. -/
theorem body_eq_trips (t : Fin cfg1.N) : bodyAt1 (F := F) t = commPrinted := by chain_rfl

end Cert.KernelIdeal.Comm

end
-- ==== Proof.CommSched.lean ====
/-
  The protocol of the communication kernel: who pays which semaphore, when, and what comes with the payment.

  Device d = 2 x + y. Its neighbour `yn d` differs in y, its neighbour `xn d` in x. Trip k on device c:
  - the rows `qM k` of c's half product go to slot k mod 2 of `yn c`'s landing buffer (`recvY` there, `sendY` here);
  - the same rows go to c's own slot (`semQ`);
  - their sum with what landed goes to the rows `outM c k` of `xn c`'s result (`recvX` there, `sendX` here) and of c's own
    result (`store`).
  A slot is used again two trips later. Before that, the receiver of a slot tells its sender so: `credY` goes back across
  the first hop and hands the landing slot over, `credX` goes back across the second. The first use of a slot is allowed
  by the barrier, which also hands `xn c` the rows of c's result that `xn c` computes.

  Semaphore slot s meets trip k = 2 r + s in its round r.
-/
module

public import proofs.«01_k».proof.Proof.CommProg
public import Idealize.ShloMosaic.Lib.Rounds
public import Idealize.ShloMosaic.Lib.Pipeline.Kit
public import Idealize.ShloMosaic.Lib.Pipeline.RegionTalk
public import Idealize.ShloMosaic.Lib.Tactic
public import Idealize.ShloMosaic.PureOps
public import Idealize.ShloMosaic.Harness.Basic

@[expose] public section

noncomputable section

namespace Cert.KernelIdeal.Comm

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The neighbours -/

/-- The device that differs in y; and the device that differs in x. -/
def yn (d : Dev nD) : Dev nD := ⟨2 * (d.val / 2) + 1 - d.val % 2, by have h := d.isLt; have e : nD = 4 := rfl; omega⟩
def xn (d : Dev nD) : Dev nD := ⟨d.val % 2 + 2 - 2 * (d.val / 2), by have h := d.isLt; have e : nD = 4 := rfl; omega⟩
theorem yn_yn (d : Dev nD) : yn (yn d) = d := by revert d; decide
theorem xn_xn (d : Dev nD) : xn (xn d) = d := by revert d; decide
theorem yn_xn (d : Dev nD) : yn (xn d) = xn (yn d) := by revert d; decide

/-! ## The algebra: the pipeline's copy and the protocol's -/

abbrev UC : Type := URounds (GSem nD τ sig) Bool
abbrev UU : Type := UR sig nD τ × UC
abbrev MM (F : FTy → Type) [FloatOps F] : Type := MT nD τ sig ℕ (Elt F) ℕ UU ℕ
abbrev EP : Emb (UR sig nD τ) (MM F) := embL
abbrev ER : Emb UC (MM F) := embR

/-! ## What the cells are -/

/-- What a semaphore is for. -/
inductive Use | bar | crY | crX | q | sY | rY | sX | rX | st | other
deriving DecidableEq

def useOf : SemLoc sig → Use
  | .reg n => if n.val = 4 then .bar else if n.val < 2 then .crY else .crX
  | .dma n => match (n.val - 6) / 2, decide (n.val < 6) with
    | _, true => .other
    | 0, _ => .q | 1, _ => .sY | 2, _ => .rY | 3, _ => .sX | 4, _ => .rX | _, _ => .st
def slotOfSem : SemLoc sig → Fin 2
  | .reg n => ⟨n.val % 2, Nat.mod_lt _ (by decide)⟩
  | .dma n => ⟨n.val % 2, Nat.mod_lt _ (by decide)⟩

abbrev cell (c : Dev nD) (sm : SemLoc sig) : GSem nD τ sig := ((c : Thread nD τ), sm)

@[simp] theorem use_bar : useOf (.reg barS) = .bar := rfl
@[simp] theorem use_crY (s : Fin 2) : useOf (.reg (credY s)) = .crY := by revert s; decide
@[simp] theorem use_crX (s : Fin 2) : useOf (.reg (credX s)) = .crX := by revert s; decide
@[simp] theorem use_q (s : Fin 2) : useOf (.dma (semQ s)) = .q := by revert s; decide
@[simp] theorem use_sY (s : Fin 2) : useOf (.dma (sendY s)) = .sY := by revert s; decide
@[simp] theorem use_rY (s : Fin 2) : useOf (.dma (recvY s)) = .rY := by revert s; decide
@[simp] theorem use_sX (s : Fin 2) : useOf (.dma (sendX s)) = .sX := by revert s; decide
@[simp] theorem use_rX (s : Fin 2) : useOf (.dma (recvX s)) = .rX := by revert s; decide
@[simp] theorem use_st (s : Fin 2) : useOf (.dma (store s)) = .st := by revert s; decide
@[simp] theorem slot_crY (s : Fin 2) : slotOfSem (.reg (credY s)) = s := by revert s; decide
@[simp] theorem slot_crX (s : Fin 2) : slotOfSem (.reg (credX s)) = s := by revert s; decide
@[simp] theorem slot_q (s : Fin 2) : slotOfSem (.dma (semQ s)) = s := by revert s; decide
@[simp] theorem slot_sY (s : Fin 2) : slotOfSem (.dma (sendY s)) = s := by revert s; decide
@[simp] theorem slot_rY (s : Fin 2) : slotOfSem (.dma (recvY s)) = s := by revert s; decide
@[simp] theorem slot_sX (s : Fin 2) : slotOfSem (.dma (sendX s)) = s := by revert s; decide
@[simp] theorem slot_rX (s : Fin 2) : slotOfSem (.dma (recvX s)) = s := by revert s; decide
@[simp] theorem slot_st (s : Fin 2) : slotOfSem (.dma (store s)) = s := by revert s; decide

/-- The trip that round r of slot s belongs to. -/
def trip (r : ℕ) (s : Fin 2) : Fin 8 := ⟨(2 * r + s.val) % 8, Nat.mod_lt _ (by decide)⟩
@[simp] theorem trip_slot (k : Fin 8) : trip (k.val / 2) (slotOf k) = k := by revert k; decide

/-! ## Contents -/

/-- Device c's elements of the view M, at share p, holding f. -/
abbrev vp {sp : Space} {s : Shape} {e : EltTy} (c : Dev nD) (M : Memref sig .tc sp s e) (p : PosShare TreeShare)
    (f : Buf (Elt F) (M.view.loc (c : Thread nD τ))) : sProp (MM F) :=
  M.view.loc (c : Thread nD τ) ↦[M.view.set]{p} f

theorem vp_congr {sp : Space} {s : Shape} {e : EltTy} (c : Dev nD) (M : Memref sig .tc sp s e) (p : PosShare TreeShare)
    (f g : Buf (Elt F) (M.view.loc (c : Thread nD τ))) (h : M.view.read (Elt F) f = M.view.read (Elt F) g) :
    vp c M p f = vp c M p g := by
  refine pointsTo_congr fun i hi => ?_
  obtain ⟨x, -, rfl⟩ := Finset.mem_map.mp hi
  have := congrFun h x
  rw [View.read_apply, View.read_apply] at this
  exact (Equiv.cast _).injective this

/-- A share in two. -/
theorem vp_halves {sp : Space} {s : Shape} {e : EltTy} (c : Dev nD) (M : Memref sig .tc sp s e)
    (f : Buf (Elt F) (M.view.loc (c : Thread nD τ))) :
    (vp c M fullShare f : sProp (MM F)) ⊣⊢ iprop(vp c M fullShare.left f ∗ vp c M fullShare.right f) :=
  pointsTo_share (PosShare.mem_left_op_right _)

abbrev zeroBuf : (⟨S2x256x4096, .f32⟩ : BufTy).Contents (Elt F) := fun _ => (FloatOps.ofBits .f32 0#32 : F .f32)
/-- A buffer whose slot s holds v. -/
def ownBuf (s : Fin 2) (v : Vec F S256x4096 .f32) : cc1_scratch0.ty.Contents (Elt F) := (ownM s).view.write (Elt F) zeroBuf v Finset.univ
def landBuf (s : Fin 2) (v : Vec F S256x4096 .f32) : cc1_scratch1.ty.Contents (Elt F) := (landM s).view.write (Elt F) zeroBuf v Finset.univ
def sumBuf (s : Fin 2) (v : Vec F S256x4096 .f32) : cc1_scratch2.ty.Contents (Elt F) := (sumM s).view.write (Elt F) zeroBuf v Finset.univ

variable (q : Dev nD → main_v10.ty.Contents (Elt F))

/-- Trip k's rows of device c's half product. -/
def qv (c : Dev nD) (k : Fin 8) : Vec F S256x4096 .f32 := (qM k).view.read (Elt F) (q c)
/-- Their sum with the neighbour's. -/
def sv (c : Dev nD) (k : Fin 8) : Vec F S256x4096 .f32 := addf (qv q c k) (qv q (yn c) k)

/-- The device that computes row i of device c's result. -/
def rowDev (c : Dev nD) (i : Fin 4096) : Dev nD := ⟨2 * (i.val / 2048) + c.val % 2, by have h := i.isLt; have e : nD = 4 := rfl; omega⟩
/-- Device c's result: row i is row i mod 2048 of the sum of the two half products of its row block. -/
def outv (c : Dev nD) : main_v11.ty.Contents (Elt F) := fun (i : S4096x4096.Idx) =>
  let i0 : Fin 4096 := i 0
  let j : S2048x4096.Idx := fun a => match a with | 0 => (⟨i0.val % 2048, Nat.mod_lt _ (by decide)⟩ : Fin 2048) | 1 => (i 1 : Fin 4096)
  let u : FVec F S2048x4096 .f32 := q (rowDev c i0)
  let v : FVec F S2048x4096 .f32 := q (yn (rowDev c i0))
  addf u v j

end Cert.KernelIdeal.Comm

end
-- ==== Proof.CommVals.lean ====
/-
  What the kernel's transfers, loads and stores read and write, as equations between blocks.
-/
module

public import proofs.«01_k».proof.Proof.CommSched

@[expose] public section

noncomputable section

namespace Cert.KernelIdeal.Comm

open Idealize.ShloMosaic Idealize.ShloMosaic.TcCoe Cert.KernelIdeal.Gen
open Idealize.SL Idealize.SL.RA Idealize.SL.BI

variable {F : FTy → Type} [FloatOps F] (q : Dev nD → main_v10.ty.Contents (Elt F))

theorem outM_set_off (d : Dev nD) (k : Fin 8) :
    k1_off1 d (BitVec.ofNat 32 (256 * k.val)) = ![2048 * (d.val / 2) + 256 * k.val, 0] := k1_off1_eq d k

/-- The rows that device d computes in trip k, read from the result of a device with the same y: the two half products' sum. -/
theorem read_outv (c d : Dev nD) (h : d.val % 2 = c.val % 2) (k : Fin 8) :
    (outM d k).view.read (Elt F) (outv q c) = sv q d k := by
  funext x
  have hx0 : (x 0).val < 256 := (x 0).isLt
  have hx1 : (x 1).val < 4096 := (x 1).isLt
  have hd : d.val < 4 := d.isLt
  have hk : k.val < 8 := k.isLt
  have e0 : ((outM d k).view.emb x 0).val = 2048 * (d.val / 2) + 256 * k.val + (x 0).val := by
    show (k1_off1 d (BitVec.ofNat 32 (256 * k.val))) 0 + 1 * (x 0).val = _
    rw [outM_set_off]; show 2048 * (d.val / 2) + 256 * k.val + 1 * (x 0).val = _; omega
  have e1 : ((outM d k).view.emb x 1).val = (x 1).val := by
    show (k1_off1 d (BitVec.ofNat 32 (256 * k.val))) 1 + 1 * (x 1).val = _
    rw [outM_set_off]; show 0 + 1 * (x 1).val = _; omega
  have hrow : rowDev c ((outM d k).view.emb x 0) = d := by
    apply Fin.ext
    show 2 * (((outM d k).view.emb x 0).val / 2048) + c.val % 2 = d.val
    rw [e0]; omega
  show FloatOps.addf (q (rowDev c ((outM d k).view.emb x 0)) _) (q (yn (rowDev c ((outM d k).view.emb x 0))) _) = FloatOps.addf (q d ((qM k).view.emb x)) (q (yn d) ((qM k).view.emb x))
  rw [hrow]
  have hj : (fun a => match a with | 0 => (⟨((outM d k).view.emb x 0).val % 2048, Nat.mod_lt _ (by decide)⟩ : Fin 2048) | 1 => ((outM d k).view.emb x 1 : Fin 4096) : S2048x4096.Idx)
      = (qM k).view.emb x := by
    funext a
    match a with
    | 0 =>
      apply Fin.ext
      show ((outM d k).view.emb x 0).val % 2048 = 256 * k.val + 1 * (x 0).val
      rw [e0]; omega
    | 1 =>
      apply Fin.ext
      show ((outM d k).view.emb x 1).val = 0 + 1 * (x 1).val
      rw [e1]; omega
  exact congrArg₂ FloatOps.addf (congrArg _ hj) (congrArg _ hj)

theorem read_outv_own (c : Dev nD) (k : Fin 8) : (outM c k).view.read (Elt F) (outv q c) = sv q c k := read_outv q c c rfl k
theorem read_outv_in (c : Dev nD) (k : Fin 8) : (outM (xn c) k).view.read (Elt F) (outv q c) = sv q (xn c) k :=
  read_outv q c (xn c) (by revert c; decide) k
/-- The same, told from the side of the device that sends. -/
theorem read_outv_sent (c : Dev nD) (k : Fin 8) : (outM c k).view.read (Elt F) (outv q (xn c)) = sv q c k :=
  read_outv q (xn c) c (by revert c; decide) k

/-! ## The slots -/

theorem read_ownBuf (s : Fin 2) (v : Vec F S256x4096 .f32) : (ownM s).view.read (Elt F) (ownBuf s v) = v := View.read_write_univ _ _
theorem read_landBuf (s : Fin 2) (v : Vec F S256x4096 .f32) : (landM s).view.read (Elt F) (landBuf s v) = v := View.read_write_univ _ _
theorem read_sumBuf (s : Fin 2) (v : Vec F S256x4096 .f32) : (sumM s).view.read (Elt F) (sumBuf s v) = v := View.read_write_univ _ _

theorem load_own (s : Fin 2) (f : cc1_scratch0.ty.Contents (Elt F)) :
    shapeCast S256x4096 ((Memref.whole cc1_scratch0).view.readAt (Elt F) (slotR s).toLoadRect f) shapeCasts_S1x256x4096_S256x4096
      = (ownM s).view.read (Elt F) f := rfl
theorem load_land (s : Fin 2) (f : cc1_scratch1.ty.Contents (Elt F)) :
    shapeCast S256x4096 ((Memref.whole cc1_scratch1).view.readAt (Elt F) (slotR s).toLoadRect f) shapeCasts_S1x256x4096_S256x4096
      = (landM s).view.read (Elt F) f := rfl

/-- What slot s holds after the store of the sum of two loaded blocks. -/
theorem read_stored (s : Fin 2) (a b : Vec F S1x256x4096 .f32) (f : cc1_scratch2.ty.Contents (Elt F)) :
    (sumM s).view.read (Elt F) (((Memref.whole cc1_scratch2).access (slotR s)).write (Elt F) f (sumPay a b) Finset.univ)
      = addf (shapeCast S256x4096 a shapeCasts_S1x256x4096_S256x4096) (shapeCast S256x4096 b shapeCasts_S1x256x4096_S256x4096) := by
  have h : (sumM s).view.read (Elt F) (((Memref.whole cc1_scratch2).access (slotR s)).write (Elt F) f (sumPay a b) Finset.univ)
      = shapeCast S256x4096 (((Memref.whole cc1_scratch2).access (slotR s)).read (Elt F) (((Memref.whole cc1_scratch2).access (slotR s)).write (Elt F) f (sumPay a b) Finset.univ))
          shapeCasts_S1x256x4096_S256x4096 := rfl
  rw [h, View.read_write_univ]
  funext x
  show addf _ _ (Shape.reshapeEquiv _ (Shape.reshapeEquiv _ x)) = _
  rw [Shape.reshapeEquiv_reshapeEquiv, Shape.reshapeEquiv_self]

theorem stored_sum (s : Fin 2) (u v : Vec F S256x4096 .f32) (f : cc1_scratch2.ty.Contents (Elt F)) :
    (sumM s).view.read (Elt F) (((Memref.whole cc1_scratch2).access (slotR s)).write (Elt F) f
        (sumPay ((Memref.whole cc1_scratch0).view.readAt (Elt F) (slotR s).toLoadRect (ownBuf s u))
          ((Memref.whole cc1_scratch1).view.readAt (Elt F) (slotR s).toLoadRect (landBuf s v))) Finset.univ)
      = addf u v := by
  rw [read_stored, load_own, load_land, read_ownBuf, read_landBuf]

/-! ## The element sets: a slot through its view and through the load's rectangle -/

theorem own_set (s : Fin 2) : (ownM s).view.set = (Memref.whole cc1_scratch0).view.setOn (slotR s).toLoadRect.set := by
  rw [show (ownM s).view.set = ((Memref.whole cc1_scratch0).view.slice (slotR s)).set from View.set_reshape _ _, View.set_slice]; rfl
theorem land_set (s : Fin 2) : (landM s).view.set = (Memref.whole cc1_scratch1).view.setOn (slotR s).toLoadRect.set := by
  rw [show (landM s).view.set = ((Memref.whole cc1_scratch1).view.slice (slotR s)).set from View.set_reshape _ _, View.set_slice]; rfl
theorem sum_set (s : Fin 2) : (sumM s).view.set = (Memref.whole cc1_scratch2).view.setOn (slotR s).toLoadRect.set := by
  rw [show (sumM s).view.set = ((Memref.whole cc1_scratch2).view.slice (slotR s)).set from View.set_reshape _ _, View.set_slice]; rfl
theorem sum_set' (s : Fin 2) : (sumM s).view.set = ((Memref.whole cc1_scratch2).access (slotR s)).setOn Finset.univ :=
  View.set_reshape _ _

end Cert.KernelIdeal.Comm

end
-- ==== Proof.CommRounds.lean ====
/-
  The schedule of the communication kernel's semaphores: the duties of each round, their amounts and their payloads; the
  levels that order the waits; and what each device owes at launch.
-/
module

public import proofs.«01_k».proof.Proof.CommVals

@[expose] public section

noncomputable section

namespace Cert.KernelIdeal.Comm

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (q : Dev nD → main_v10.ty.Contents (Elt F))

/-! ## Payloads -/

/-- The units one block's transfer raises its semaphores by. -/
abbrev N : ℕ := (ownM 0).view.dmaCredit
theorem N_pos : 0 < N := View.dmaCredit_pos _ (by decide)

/-- From `yn c` to c, at the barrier: `yn c`'s two landing slots. -/
def barPayY (c : Dev nD) : sProp (MM F) :=
  bigSep Finset.univ fun s : Fin 2 => iprop((∃ f, vp (yn c) (landM s) fullShare f) ∗ reached ER (cell (yn c) (.dma (recvY s))) 0)
/-- From `xn c` to c, at the barrier: the rows of `xn c`'s result that c computes. -/
def barPayX (c : Dev nD) : sProp (MM F) :=
  iprop((bigSep Finset.univ fun k : Fin 8 => iprop(∃ f, vp (xn c) (outM c k) fullShare f))
    ∗ bigSep Finset.univ fun s : Fin 2 => reached ER (cell (xn c) (.dma (recvX s))) 0)
/-- Trip k's block of `yn c` has landed at c. -/
def recvYPay (c : Dev nD) (k : Fin 8) : sProp (MM F) :=
  iprop(vp c (landM (slotOf k)) fullShare (landBuf (slotOf k) (qv q (yn c) k)) ∗ reached ER (cell (yn c) (.reg (credY (slotOf k)))) (k.val / 2))
def sendYPay (c : Dev nD) (k : Fin 8) : sProp (MM F) := vp c (qM k) fullShare.left (q c)
def semQPay (c : Dev nD) (k : Fin 8) : sProp (MM F) :=
  iprop(vp c (ownM (slotOf k)) fullShare (ownBuf (slotOf k) (qv q c k)) ∗ vp c (qM k) fullShare.right (q c))
/-- Trip k's sum of `xn c` has landed in c's result. -/
def recvXPay (c : Dev nD) (k : Fin 8) : sProp (MM F) :=
  iprop(vp c (outM (xn c) k) fullShare (outv q c) ∗ reached ER (cell (xn c) (.reg (credX (slotOf k)))) (k.val / 2))
def sendXPay (c : Dev nD) (k : Fin 8) : sProp (MM F) := vp c (sumM (slotOf k)) fullShare.left (sumBuf (slotOf k) (sv q c k))
def storePay (c : Dev nD) (k : Fin 8) : sProp (MM F) :=
  iprop(vp c (outM c k) fullShare (outv q c) ∗ vp c (sumM (slotOf k)) fullShare.right (sumBuf (slotOf k) (sv q c k)))
/-- From `yn c` to c: `yn c` has read what c sent in trip k, and hands the slot over again. -/
def credYPay (c : Dev nD) (k : Fin 8) : sProp (MM F) :=
  iprop((∃ f, vp (yn c) (landM (slotOf k)) fullShare f) ∗ reached ER (cell (yn c) (.dma (recvY (slotOf k)))) (k.val / 2 + 1))
/-- From `xn c` to c: what c sent in trip k has been received. -/
def credXPay (c : Dev nD) (k : Fin 8) : sProp (MM F) := reached ER (cell (xn c) (.dma (recvX (slotOf k)))) (k.val / 2 + 1)

/-- How many rounds a cell has. -/
def roundsOf : Use → ℕ
  | .bar => 1 | .crY => 3 | .crX => 3 | .other => 0 | _ => 4

def usePay (u : Use) (c : Dev nD) (k : Fin 8) (b : Bool) : sProp (MM F) :=
  match u with
  | .bar => bif b then barPayY c else barPayX c
  | .crY => credYPay c k
  | .crX => credXPay c k
  | .q => semQPay q c k
  | .sY => sendYPay q c k
  | .rY => recvYPay q c k
  | .sX => sendXPay q c k
  | .rX => recvXPay q c k
  | .st => storePay q c k
  | .other => iprop(emp)

def useAmt : Use → ℕ
  | .bar => 1 | .crY => 1 | .crX => 1 | _ => N
theorem useAmt_pos (u : Use) : 0 < useAmt u := by cases u <;> first | exact Nat.one_pos | exact N_pos

/-- The schedule: one duty a round, but the barrier's two, one from either neighbour. -/
def sched : Schedule (GSem nD τ sig) Bool (MM F) where
  duties g r := if r < roundsOf (useOf g.2) then (if useOf g.2 = .bar then Finset.univ else {true}) else ∅
  unitless _ := False
  amount g _ _ := useAmt (useOf g.2)
  payload g r b := usePay q (useOf g.2) g.1.1 (trip r (slotOfSem g.2)) b
  amount_pos _ _ _ _ := useAmt_pos _

theorem vp_storable {sp : Space} {s : Shape} {e : EltTy} (c : Dev nD) (M : Memref sig .tc sp s e) :
    BI.Storable (upEmb : UEmb _ (MM F)) (iprop(∃ f, vp c M fullShare f) : sProp (MM F)) := by infer_instance

instance sched_payload_storable (g : GSem nD τ sig) (r : ℕ) (b : Bool) :
    BI.Storable (upEmb : UEmb _ (MM F)) ((sched q).payload g r b) := by
  show BI.Storable upEmb (usePay q (useOf g.2) g.1.1 (trip r (slotOfSem g.2)) b)
  cases useOf g.2 <;> unfold usePay
  · cases b
    · show BI.Storable upEmb (barPayX g.1.1); unfold barPayX
      haveI : ∀ k : Fin 8, BI.Storable (upEmb : UEmb _ (MM F)) (iprop(∃ f, vp (xn g.1.1) (outM g.1.1 k) fullShare f) : sProp (MM F)) := fun k => vp_storable _ _
      infer_instance
    · show BI.Storable upEmb (barPayY g.1.1); unfold barPayY; infer_instance
  · show BI.Storable upEmb (credYPay _ _); unfold credYPay; infer_instance
  · show BI.Storable upEmb (credXPay _ _); unfold credXPay; infer_instance
  · show BI.Storable upEmb (semQPay q _ _); unfold semQPay; infer_instance
  · show BI.Storable upEmb (sendYPay q _ _); unfold sendYPay; infer_instance
  · show BI.Storable upEmb (recvYPay q _ _); unfold recvYPay; infer_instance
  · show BI.Storable upEmb (sendXPay q _ _); unfold sendXPay; infer_instance
  · show BI.Storable upEmb (recvXPay q _ _); unfold recvXPay; infer_instance
  · show BI.Storable upEmb (storePay q _ _); unfold storePay; infer_instance
  · infer_instance

/-- A round of a cell with one duty. -/
theorem duties_one (c : Dev nD) (sm : SemLoc sig) (r : ℕ) (hr : r < roundsOf (useOf sm)) (hb : useOf sm ≠ .bar) :
    (sched q).duties (cell c sm) r = {true} := by
  show (if r < roundsOf (useOf sm) then (if useOf sm = .bar then Finset.univ else {true}) else ∅) = _
  rw [if_pos hr, if_neg hb]
theorem duties_bar (c : Dev nD) : (sched q).duties (cell c (.reg barS)) 0 = Finset.univ := rfl
theorem duties_done (g : GSem nD τ sig) (R : ℕ) (hR : roundsOf (useOf g.2) ≤ R) : ∀ r, R ≤ r → (sched q).duties g r = ∅ := fun r hr => by
  show (if r < roundsOf (useOf g.2) then _ else ∅) = _
  rw [if_neg (by omega)]
theorem mem_duties (c : Dev nD) (sm : SemLoc sig) (r : ℕ) (hr : r < roundsOf (useOf sm)) (hb : useOf sm ≠ .bar) :
    true ∈ (sched q).duties (cell c sm) r := by rw [duties_one q c sm r hr hb]; exact Finset.mem_singleton_self _
theorem amount_eq (c : Dev nD) (sm : SemLoc sig) (r : ℕ) (b : Bool) : (sched q).amount (cell c sm) r b = useAmt (useOf sm) := rfl
theorem expect_one (c : Dev nD) (sm : SemLoc sig) (r : ℕ) (hr : r < roundsOf (useOf sm)) (hb : useOf sm ≠ .bar) :
    (sched q).expect (cell c sm) r = useAmt (useOf sm) := by
  unfold Schedule.expect Schedule.amountOf
  rw [duties_one q c sm r hr hb, Finset.sum_singleton, amount_eq]
theorem expect_bar (c : Dev nD) : (sched q).expect (cell c (.reg barS)) 0 = 2 := by
  unfold Schedule.expect Schedule.amountOf
  rw [duties_bar]; rfl
theorem rest_one (c : Dev nD) (sm : SemLoc sig) (r : ℕ) (hr : r < roundsOf (useOf sm)) (hb : useOf sm ≠ .bar) :
    bigSep ((sched q).duties (cell c sm) r \ ∅) (fun b => (sched q).payload (cell c sm) r b)
      = usePay q (useOf sm) c (trip r (slotOfSem sm)) true := by
  rw [Finset.sdiff_empty, duties_one q c sm r hr hb, bigSep_singleton]; rfl
theorem rest_bar (c : Dev nD) :
    bigSep ((sched q).duties (cell c (.reg barS)) 0 \ ∅) (fun b => (sched q).payload (cell c (.reg barS)) 0 b)
      = iprop(barPayY c ∗ barPayX c) := by
  rw [Finset.sdiff_empty, duties_bar, show (Finset.univ : Finset Bool) = {true, false} from rfl, bigSep_insert (by decide), bigSep_singleton]; rfl

/-! ## Levels -/

/-- Every cell of a TensorCore may be waited for at the indices 0, ..., 7. -/
def L (g : GSem nD τ sig) : Finset ℕ := if g.1.2 = .tc then Finset.range 8 else ∅
/-- The barrier first; then, trip by trip, the landing, the leave to send again, the received sum, the leave for it. A
    device's own transfers are owed by nobody. -/
def lvUse (u : Use) (i : ℕ) : ℕ :=
  match u with
  | .bar => 1 | .rY => 10 + 4 * i | .crY => 11 + 4 * i | .rX => 12 + 4 * i | .crX => 13 + 4 * i | _ => 0
def lv (g : GSem nD τ sig) (i : ℕ) : ℕ := lvUse (useOf g.2) i

theorem L_of_ne (g : GSem nD τ sig) (h : g.1.2 ≠ .tc) : L g = ∅ := if_neg h
theorem mem_L (c : Dev nD) (sm : SemLoc sig) (i : ℕ) (h : i < 8) : i ∈ L (cell c sm) := by
  show i ∈ (if _ then _ else _); rw [if_pos rfl]; exact Finset.mem_range.mpr h

/-- Everything owed lies above level b. -/
def Above (b : ℕ) (O : CellTallies nD τ sig ℕ) : Prop := ∀ g i, 0 < O g i → i ∈ L g ∧ b < lv g i

theorem Above.zero (b : ℕ) : Above b 0 := fun g i h => absurd h (Nat.lt_irrefl 0)
theorem Above.add {b : ℕ} {O O' : CellTallies nD τ sig ℕ} (h : Above b O) (h' : Above b O') : Above b (O + O') := fun g i hp => by
  rw [Pi.add_apply, Finsupp.add_apply] at hp
  rcases Nat.add_pos_iff_pos_or_pos.mp hp with hp | hp
  · exact h g i hp
  · exact h' g i hp
theorem Above.sum {b : ℕ} {ι : Type} (S : Finset ι) (O : ι → CellTallies nD τ sig ℕ) (h : ∀ k ∈ S, Above b (O k)) : Above b (∑ k ∈ S, O k) := by
  classical
  induction S using Finset.induction_on with
  | empty => rw [Finset.sum_empty]; exact .zero b
  | insert a S ha ih =>
    rw [Finset.sum_insert ha]
    exact .add (h a (Finset.mem_insert_self _ _)) (ih fun k hk => h k (Finset.mem_insert_of_mem hk))
theorem Above.tally {b : ℕ} (c : Dev nD) (sm : SemLoc sig) (i n : ℕ) (hi : i < 8) (hb : b < lvUse (useOf sm) i) : Above b (tallyAt (cell c sm) i n) := fun g u hg => by
  rw [tallyAt_apply] at hg
  by_cases h : g = cell c sm ∧ u = i
  · rw [h.1, h.2]; exact ⟨mem_L c sm i hi, hb⟩
  · rw [if_neg h] at hg; exact absurd hg (Nat.lt_irrefl 0)
theorem Above.mono {b b' : ℕ} {O : CellTallies nD τ sig ℕ} (h : Above b O) (hb : b' ≤ b) : Above b' O := fun g i hp =>
  ⟨(h g i hp).1, lt_of_le_of_lt hb (h g i hp).2⟩

/-- A wait at a level at or below everything owed. -/
theorem mayWait (c : Dev nD) (sm : SemLoc sig) (i : ℕ) (hi : i < 8) (O : CellTallies nD τ sig ℕ) (h : Above (lvUse (useOf sm) i) O) :
    (levAts L lv : sProp (MM F)) ⊢ MayWait (c : Thread nD τ) sm i O :=
  MayOwe.of_cut (L := L) (lev := lv) (lvUse (useOf sm) i) (fun p hp => by rw [Finset.mem_singleton.mp hp]; exact mem_L c sm i hi)
    (fun g u hg => (h g u hg).1) (fun p hp => by rw [Finset.mem_singleton.mp hp]; exact le_refl _) (fun g u hg => (h g u hg).2)

/-! ## What is owed -/

/-- The block sent to `yn c` in trip k; the sum sent to `xn c`; the two leaves to send again, while trips remain. -/
def oweRY (c : Dev nD) (k : Fin 8) : CellTallies nD τ sig ℕ := tallyAt (cell (yn c) (.dma (recvY (slotOf k)))) k.val N
def oweRX (c : Dev nD) (k : Fin 8) : CellTallies nD τ sig ℕ := tallyAt (cell (xn c) (.dma (recvX (slotOf k)))) k.val N
def oweCY (c : Dev nD) (k : Fin 8) : CellTallies nD τ sig ℕ := if k.val ≤ 5 then tallyAt (cell (yn c) (.reg (credY (slotOf k)))) k.val 1 else 0
def oweCX (c : Dev nD) (k : Fin 8) : CellTallies nD τ sig ℕ := if k.val ≤ 5 then tallyAt (cell (xn c) (.reg (credX (slotOf k)))) k.val 1 else 0
/-- What device c owes for trip k. -/
def oweTrip (c : Dev nD) (k : Fin 8) : CellTallies nD τ sig ℕ := oweRY c k + (oweCY c k + (oweRX c k + oweCX c k))
/-- What device c owes from trip n on. -/
def oweFrom (c : Dev nD) (n : ℕ) : CellTallies nD τ sig ℕ := ∑ k ∈ Finset.univ.filter (fun k : Fin 8 => n ≤ k.val), oweTrip c k
/-- What device c owes at launch. -/
def O₀ (c : Dev nD) : CellTallies nD τ sig ℕ :=
  (oweFrom c 0 + tallyAt (cell (xn c) (.reg barS)) 0 1) + tallyAt (cell (yn c) (.reg barS)) 0 1

theorem from_step (k : Fin 8) : (Finset.univ.filter fun j : Fin 8 => k.val ≤ j.val) = insert k (Finset.univ.filter fun j : Fin 8 => k.val + 1 ≤ j.val) := by
  revert k; decide
theorem not_mem_from (k : Fin 8) : k ∉ Finset.univ.filter fun j : Fin 8 => k.val + 1 ≤ j.val := by
  rw [Finset.mem_filter]; omega
theorem oweFrom_step (c : Dev nD) (k : Fin 8) : oweFrom c k.val = oweTrip c k + oweFrom c (k.val + 1) := by
  unfold oweFrom
  rw [from_step, Finset.sum_insert (not_mem_from k)]
theorem oweFrom_end (c : Dev nD) : oweFrom c 8 = 0 := by
  unfold oweFrom
  rw [show (Finset.univ.filter fun k : Fin 8 => 8 ≤ k.val) = ∅ from by decide, Finset.sum_empty]

theorem above_RY (c : Dev nD) (k : Fin 8) (b : ℕ) (h : b < 10 + 4 * k.val) : Above b (oweRY c k) :=
  .tally _ _ _ _ k.isLt (by rw [use_rY]; exact h)
theorem above_RX (c : Dev nD) (k : Fin 8) (b : ℕ) (h : b < 12 + 4 * k.val) : Above b (oweRX c k) :=
  .tally _ _ _ _ k.isLt (by rw [use_rX]; exact h)
theorem above_CY (c : Dev nD) (k : Fin 8) (b : ℕ) (h : b < 11 + 4 * k.val) : Above b (oweCY c k) := by
  unfold oweCY; split
  · exact .tally _ _ _ _ k.isLt (by rw [use_crY]; exact h)
  · exact .zero b
theorem above_CX (c : Dev nD) (k : Fin 8) (b : ℕ) (h : b < 13 + 4 * k.val) : Above b (oweCX c k) := by
  unfold oweCX; split
  · exact .tally _ _ _ _ k.isLt (by rw [use_crX]; exact h)
  · exact .zero b
theorem above_trip (c : Dev nD) (k : Fin 8) (b : ℕ) (h : b < 10 + 4 * k.val) : Above b (oweTrip c k) :=
  (above_RY c k b h).add ((above_CY c k b (by omega)).add ((above_RX c k b (by omega)).add (above_CX c k b (by omega))))
theorem above_from (c : Dev nD) (n b : ℕ) (h : b < 10 + 4 * n) : Above b (oweFrom c n) :=
  .sum _ _ fun k hk => above_trip c k b (by have := (Finset.mem_filter.mp hk).2; omega)
theorem above_O₀ (c : Dev nD) : Above 0 (O₀ c) :=
  ((above_from c 0 0 (by omega)).add (.tally _ _ _ _ (by decide) (by decide))).add (.tally _ _ _ _ (by decide) (by decide))

end Cert.KernelIdeal.Comm

end
-- ==== Proof.CommSteps.lean ====
/-
  The single steps of the communication kernel, each stated once for any cell: a wait that takes a round's payment, a signal,
  and the four transfers of a trip.
-/
module

public import proofs.«01_k».proof.Proof.CommRounds

@[expose] public section

noncomputable section

namespace Cert.KernelIdeal.Comm

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (q : Dev nD → main_v10.ty.Contents (Elt F))

/-! ## The protocol's cells and the record of their invariants -/

/-- The kernel's own scoped semaphores: the leaves to send again, then the six transfer semaphores by slot. -/
def osem (j : Fin 16) : SemLoc sig :=
  if h : j.val < 4 then .reg ⟨j.val, by show j.val < 5; omega⟩ else .dma ⟨j.val + 2, by have := j.isLt; show j.val + 2 < 18; omega⟩
theorem osem_inj : Function.Injective osem := by decide
theorem osem_ne_bar : ∀ j : Fin 16, osem j ≠ .reg barS := by decide
theorem osem_of_use : ∀ sm : SemLoc sig, useOf sm ≠ .other → sm ≠ .reg barS → ∃ j, osem j = sm := by decide

def barEmb : Dev nD ↪ GSem nD τ sig := ⟨fun c => cell c (.reg barS), fun _ _ h => congrArg (fun g : GSem nD τ sig => g.1.1) h⟩
def scEmb : Dev nD × Fin 16 ↪ GSem nD τ sig :=
  ⟨fun cj => cell cj.1 (osem cj.2), fun _ _ h => Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem mem_cells (c : Dev nD) (sm : SemLoc sig) (h : useOf sm ≠ .other) : cell c sm ∈ (barCells ∪ scCells : Finset (GSem nD τ sig)) := by
  by_cases hb : sm = .reg barS
  · subst hb; exact Finset.mem_union_left _ (Finset.mem_map_of_mem barEmb (Finset.mem_univ c))
  · obtain ⟨j, rfl⟩ := osem_of_use sm h hb
    exact Finset.mem_union_right _ (Finset.mem_map_of_mem scEmb (Finset.mem_univ (c, j)))

/-- The invariants of all the protocol's cells, under the names K. -/
def recs (K : GSem nD τ sig → ℕ) : sProp (MM F) := bigSep (barCells ∪ scCells) fun g => cellInv ER (sched q) (K g) g
instance recs_persistent (K : GSem nD τ sig → ℕ) : BI.Persistent (recs q K) := by unfold recs; infer_instance
theorem inv_at (K : GSem nD τ sig → ℕ) (c : Dev nD) (sm : SemLoc sig) (h : useOf sm ≠ .other) :
    recs q K ⊢ cellInv ER (sched q) (K (cell c sm)) (cell c sm) :=
  bigSep_elim (Φ := fun g => cellInv ER (sched q) (K g) g) (mem_cells c sm h)

/-- Device c owes O. -/
def ow (c : Dev nD) (O : CellTallies nD τ sig ℕ) : sProp (MM F) := iprop(∃ W, owes (c : Thread nD τ) O W)

abbrev 𝒱₀ : Variants := Variants.none
/-- The program p run by device c to the end Q. -/
abbrev WP (c : Dev nD) (p : Pr F) (Q : PUnit → sProp (MM F)) : sProp (MM F) :=
  wp frame (wpE (defs₀ (F := F)) 𝒱₀ (c : Thread nD τ) none) Set.univ p Q

variable (K : GSem nD τ sig → ℕ) (c : Dev nD) (Q : PUnit → sProp (MM F))

/-! ## Steps -/

/-- A wait for all of round r of a cell with one duty a round. -/
theorem wait_step (sm : SemLoc sig) (r i n : ℕ) (hu : useOf sm ≠ .other) (hb : useOf sm ≠ .bar) (hr : r < roundsOf (useOf sm)) (hi : i < 8)
    (hn : useAmt (useOf sm) = n) {w : TpuEff nD τ sig (Elt F) Λ₀ .tc PUnit}
    (hw : ∀ k : PUnit → sProp (MM F), wpE (defs₀ (F := F)) 𝒱₀ (c : Thread nD τ) none Set.univ w k = waitSpec (c : Thread nD τ) Set.univ sm n k)
    (O : CellTallies nD τ sig ℕ) (ha : Above (lvUse (useOf sm) i) O) {k : PUnit → Pr F} :
    iprop(recs q K ∗ levAts L lv ∗ cred (tallyAt (cell c sm) i n) ∗ ow c O ∗ atPos ER (cell c sm) r ∅ 0)
      ⊢ iprop((ow c O ∗ atPos ER (cell c sm) (r + 1) ∅ 0 ∗ reached ER (cell c sm) (r + 1) ∗ usePay q (useOf sm) c (trip r (slotOfSem sm)) true
          -∗ WP c (k ⟨⟩) Q) -∗ WP c (.op w k) Q) := by
  unfold ow
  iintro ⟨#HR, #HL, Hc, ⟨%W, HO⟩, Hat⟩ Hk
  iapply (Rounds.wp_wait_rest_token 𝒱₀ ER (sched q) (c : Thread nD τ) none (κ := K (cell c sm)) hw (Set.mem_univ _) i (O := O) (W := W) (R := r) (m := 0) (T := ∅)
      ((Nat.zero_add n).trans (hn.symm.trans (expect_one q c sm r hr hb).symm))) $$ [Hc HO Hat]
  · isplitr; · iapply (inv_at q K c sm hu); iexact HR
    isplitl [Hc]; · iexact Hc
    isplitl [HO]; · iexact HO
    isplitr; · iapply (mayWait c sm i hi O ha); iexact HL
    iexact Hat
  iintro ⟨HO, Hat, #Hr, Hpay⟩
  ihave Hp := (Entails.of_eq (rest_one q c sm r hr hb)) $$ Hpay
  iapply Hk
  isplitl [HO]; · iexists _; iexact HO
  isplitl [Hat]; · iexact Hat
  isplitr; · iexact Hr
  iexact Hp

/-- A signal that pays duty b of round r of a regular cell of device e. -/
theorem signal_step (e : Dev nD) (sem : Sem sig) (r i : ℕ) (b : Bool) (hu : useOf (.reg sem) ≠ .other) (hd : b ∈ (sched q).duties (cell e (.reg sem)) r)
    (hn : useAmt (useOf (.reg sem)) = 1) (O : CellTallies nD τ sig ℕ) {k : PUnit → Pr F} :
    iprop(recs q K ∗ ow c (O + tallyAt (cell e (.reg sem)) i 1) ∗ dutyTok ER (cell e (.reg sem)) r b
        ∗ usePay q (useOf (.reg sem)) e (trip r (slotOfSem (.reg sem))) b ∗ reached ER (cell e (.reg sem)) r)
      ⊢ iprop((ow c O -∗ WP c (k ⟨⟩) Q) -∗ WP c (.op (.semSignal (Dev.tc e) sem ((1 : ℕ) : ℤ)) k) Q) := by
  unfold ow
  iintro ⟨#HR, ⟨%W, HO⟩, Ht, Hp, Hr⟩ Hk
  iapply (Rounds.wp_signal 𝒱₀ ER (sched q) (c : Thread nD τ) none (dst := (e : Thread nD τ)) (sem := sem) (r := r) (d := b) (κ := K (cell e (.reg sem)))
      hd hn i O rfl (W := W)) $$ [HO Ht Hp Hr]
  · isplitr; · iapply (inv_at q K e (.reg sem) hu); iexact HR
    isplitl [HO]; · iexact HO
    isplitl [Ht]; · iexact Ht
    isplitl [Hp]
    · iapply (Entails.of_eq (show usePay q (useOf (.reg sem)) e (trip r (slotOfSem (.reg sem))) b = (sched q).payload (cell e (.reg sem)) r b from rfl)); iexact Hp
    iexact Hr
  iintro HO
  iapply Hk
  iexists _; iexact HO

variable (k : Fin 8)

/-- The trip's round is one of a transfer cell's four. -/
theorem half_lt (k : Fin 8) : k.val / 2 < 4 := by have := k.isLt; omega

/-- Trip k's block to `yn c`. -/
theorem sendY_step (f : Buf (Elt F) ((landM (slotOf k)).view.loc (yn c : Thread nD τ))) (O : CellTallies nD τ sig ℕ) {kk : PUnit → Pr F} :
    iprop(recs q K ∗ vp c (qM k) fullShare.left (q c) ∗ vp (yn c) (landM (slotOf k)) fullShare f ∗ reached ER (cell c (.reg (credY (slotOf k)))) (k.val / 2)
        ∗ ow c (O + oweRY c k)
        ∗ dutyTok ER (cell c (.dma (sendY (slotOf k)))) (k.val / 2) true ∗ reached ER (cell c (.dma (sendY (slotOf k)))) (k.val / 2)
        ∗ dutyTok ER (cell (yn c) (.dma (recvY (slotOf k)))) (k.val / 2) true ∗ reached ER (cell (yn c) (.dma (recvY (slotOf k)))) (k.val / 2))
      ⊢ iprop((cred (tallyAt (cell c (.dma (sendY (slotOf k)))) 0 N) ∗ ow c O -∗ WP c (kk ⟨⟩) Q)
        -∗ WP c (.op (.enqueueDma (qM k) (.remote (Dev.tc (yn c)) (landM (slotOf k)) (.dma (sendY (slotOf k)))) (.dma (recvY (slotOf k))) (View.wordExact_bits rfl) ((View.wordExact_bits rfl).reshape _ _) ⟨⟨rfl, Or.inl rfl⟩, trivial⟩) kk) Q) := by
  unfold ow
  iintro ⟨#HR, Hq, Hl, #Hcr, ⟨%W, HO⟩, Ht1, #Hr1, Ht2, #Hr2⟩ Hk
  iapply (Rounds.wp_send_pointsTo_with 𝒱₀ ER (sched q) (c : Thread nD τ) none (c' := (yn c : Thread nD τ)) (src := qM k) (dst := landM (slotOf k))
      (sS := .dma (sendY (slotOf k))) (sem := .dma (recvY (slotOf k))) (q := fullShare.left) (fs := q c) (fd := f)
      (F := reached ER (cell c (.reg (credY (slotOf k)))) (k.val / 2))
      (κ₁ := K (cell c (.dma (sendY (slotOf k))))) (κ₂ := K (cell (yn c) (.dma (recvY (slotOf k)))))
      (r₁ := k.val / 2) (r₂ := k.val / 2) (d₁ := true) (d₂ := true)
      (mem_duties q c _ _ (by rw [use_sY]; exact half_lt k) (by rw [use_sY]; decide)) (mem_duties q (yn c) _ _ (by rw [use_rY]; exact half_lt k) (by rw [use_rY]; decide))
      k.val 0 N rfl (by rw [amount_eq, use_sY]; rfl) (by rw [amount_eq, use_rY]; rfl) O rfl (W := W)
      (by show _ ⊢ usePay q (useOf (.dma (sendY (slotOf k)))) c (trip (k.val / 2) (slotOfSem (.dma (sendY (slotOf k))))) true
          rw [use_sY, slot_sY, trip_slot]; exact .rfl)
      (by show _ ⊢ usePay q (useOf (.dma (recvY (slotOf k)))) (yn c) (trip (k.val / 2) (slotOfSem (.dma (recvY (slotOf k))))) true
          rw [use_rY, slot_rY, trip_slot]
          show _ ⊢ recvYPay q (yn c) k
          unfold recvYPay
          rw [yn_yn]
          refine sep_mono_left (Entails.of_eq (vp_congr (yn c) (landM (slotOf k)) fullShare _ _ ?_))
          rw [read_landBuf]; exact View.read_write_univ _ _)) $$ [Hq Hl HO Ht1 Ht2]
  · isplitr; · iapply (inv_at q K c _ (by rw [use_sY]; decide)); iexact HR
    isplitr; · iapply (inv_at q K (yn c) _ (by rw [use_rY]; decide)); iexact HR
    isplitl [Hq]; · iexact Hq
    isplitl [Hl]
    · isplitl [Hl]; · iexact Hl
      iexact Hcr
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists _; iexact HO

/-- Trip k's sum to `xn c`. -/
theorem sendX_step (f : Buf (Elt F) ((outM c k).view.loc (xn c : Thread nD τ))) (O : CellTallies nD τ sig ℕ) {kk : PUnit → Pr F} :
    iprop(recs q K ∗ vp c (sumM (slotOf k)) fullShare.left (sumBuf (slotOf k) (sv q c k)) ∗ vp (xn c) (outM c k) fullShare f ∗ reached ER (cell c (.reg (credX (slotOf k)))) (k.val / 2)
        ∗ ow c (O + oweRX c k)
        ∗ dutyTok ER (cell c (.dma (sendX (slotOf k)))) (k.val / 2) true ∗ reached ER (cell c (.dma (sendX (slotOf k)))) (k.val / 2)
        ∗ dutyTok ER (cell (xn c) (.dma (recvX (slotOf k)))) (k.val / 2) true ∗ reached ER (cell (xn c) (.dma (recvX (slotOf k)))) (k.val / 2))
      ⊢ iprop((cred (tallyAt (cell c (.dma (sendX (slotOf k)))) 0 N) ∗ ow c O -∗ WP c (kk ⟨⟩) Q)
        -∗ WP c (.op (.enqueueDma (sumM (slotOf k)) (.remote (Dev.tc (xn c)) (outM c k) (.dma (sendX (slotOf k)))) (.dma (recvX (slotOf k))) ((View.wordExact_bits rfl).reshape _ _) (View.wordExact_bits rfl) ⟨⟨rfl, Or.inl rfl⟩, trivial⟩) kk) Q) := by
  unfold ow
  iintro ⟨#HR, Hq, Hl, #Hcr, ⟨%W, HO⟩, Ht1, #Hr1, Ht2, #Hr2⟩ Hk
  iapply (Rounds.wp_send_pointsTo_with 𝒱₀ ER (sched q) (c : Thread nD τ) none (c' := (xn c : Thread nD τ)) (src := sumM (slotOf k)) (dst := outM c k)
      (sS := .dma (sendX (slotOf k))) (sem := .dma (recvX (slotOf k))) (q := fullShare.left) (fs := sumBuf (slotOf k) (sv q c k)) (fd := f)
      (F := reached ER (cell c (.reg (credX (slotOf k)))) (k.val / 2))
      (κ₁ := K (cell c (.dma (sendX (slotOf k))))) (κ₂ := K (cell (xn c) (.dma (recvX (slotOf k)))))
      (r₁ := k.val / 2) (r₂ := k.val / 2) (d₁ := true) (d₂ := true)
      (mem_duties q c _ _ (by rw [use_sX]; exact half_lt k) (by rw [use_sX]; decide)) (mem_duties q (xn c) _ _ (by rw [use_rX]; exact half_lt k) (by rw [use_rX]; decide))
      k.val 0 N rfl (by rw [amount_eq, use_sX]; rfl) (by rw [amount_eq, use_rX]; rfl) O rfl (W := W)
      (by show _ ⊢ usePay q (useOf (.dma (sendX (slotOf k)))) c (trip (k.val / 2) (slotOfSem (.dma (sendX (slotOf k))))) true
          rw [use_sX, slot_sX, trip_slot]; exact .rfl)
      (by show _ ⊢ usePay q (useOf (.dma (recvX (slotOf k)))) (xn c) (trip (k.val / 2) (slotOfSem (.dma (recvX (slotOf k))))) true
          rw [use_rX, slot_rX, trip_slot]
          show _ ⊢ recvXPay q (xn c) k
          unfold recvXPay
          rw [xn_xn]
          refine sep_mono_left (Entails.of_eq (vp_congr (xn c) (outM c k) fullShare _ _ ?_))
          rw [read_outv_sent]; exact (View.read_write_univ _ _).trans (read_sumBuf (slotOf k) (sv q c k)))) $$ [Hq Hl HO Ht1 Ht2]
  · isplitr; · iapply (inv_at q K c _ (by rw [use_sX]; decide)); iexact HR
    isplitr; · iapply (inv_at q K (xn c) _ (by rw [use_rX]; decide)); iexact HR
    isplitl [Hq]; · iexact Hq
    isplitl [Hl]
    · isplitl [Hl]; · iexact Hl
      iexact Hcr
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists _; iexact HO

/-- Trip k's block into the device's own slot. -/
theorem own_step (f : Buf (Elt F) ((ownM (slotOf k)).view.loc (c : Thread nD τ))) {kk : PUnit → Pr F} :
    iprop(recs q K ∗ vp c (qM k) fullShare.right (q c) ∗ vp c (ownM (slotOf k)) fullShare f
        ∗ dutyTok ER (cell c (.dma (semQ (slotOf k)))) (k.val / 2) true ∗ reached ER (cell c (.dma (semQ (slotOf k)))) (k.val / 2))
      ⊢ iprop((cred (tallyAt (cell c (.dma (semQ (slotOf k)))) 0 N) -∗ WP c (kk ⟨⟩) Q)
        -∗ WP c (.op (.enqueueDma (qM k) (.here (ownM (slotOf k))) (.dma (semQ (slotOf k))) (View.wordExact_bits rfl) ((View.wordExact_bits rfl).reshape _ _) ⟨Or.inl rfl, trivial⟩) kk) Q) := by
  iintro ⟨#HR, Hq, Hl, Ht, #Hr⟩ Hk
  iapply (Rounds.wp_copy_pointsTo 𝒱₀ ER (sched q) (c : Thread nD τ) none (src := qM k) (dst := ownM (slotOf k)) (sem := .dma (semQ (slotOf k))) (q := fullShare.right)
      (fs := q c) (fd := f) (r := k.val / 2) (d := true) (κ := K (cell c (.dma (semQ (slotOf k)))))
      (mem_duties q c _ _ (by rw [use_q]; exact half_lt k) (by rw [use_q]; decide)) 0 N rfl (by rw [amount_eq, use_q]; rfl)
      (by show _ ⊢ usePay q (useOf (.dma (semQ (slotOf k)))) c (trip (k.val / 2) (slotOfSem (.dma (semQ (slotOf k))))) true
          rw [use_q, slot_q, trip_slot]
          show _ ⊢ semQPay q c k
          unfold semQPay
          refine sep_mono_left (Entails.of_eq (vp_congr c (ownM (slotOf k)) fullShare _ _ ?_))
          rw [read_ownBuf]; exact View.read_write_univ _ _)) $$ [Hq Hl Ht]
  · isplitr; · iapply (inv_at q K c _ (by rw [use_q]; decide)); iexact HR
    isplitl [Hq]; · iexact Hq
    isplitl [Hl]; · iexact Hl
    isplitl [Ht]; · iexact Ht
    iexact Hr
  iexact Hk

/-- Trip k's sum into the device's own result. -/
theorem store_step (f : Buf (Elt F) ((outM c k).view.loc (c : Thread nD τ))) {kk : PUnit → Pr F} :
    iprop(recs q K ∗ vp c (sumM (slotOf k)) fullShare.right (sumBuf (slotOf k) (sv q c k)) ∗ vp c (outM c k) fullShare f
        ∗ dutyTok ER (cell c (.dma (store (slotOf k)))) (k.val / 2) true ∗ reached ER (cell c (.dma (store (slotOf k)))) (k.val / 2))
      ⊢ iprop((cred (tallyAt (cell c (.dma (store (slotOf k)))) 0 N) -∗ WP c (kk ⟨⟩) Q)
        -∗ WP c (.op (.enqueueDma (sumM (slotOf k)) (.here (outM c k)) (.dma (store (slotOf k))) ((View.wordExact_bits rfl).reshape _ _) (View.wordExact_bits rfl) ⟨Or.inl rfl, trivial⟩) kk) Q) := by
  iintro ⟨#HR, Hq, Hl, Ht, #Hr⟩ Hk
  iapply (Rounds.wp_copy_pointsTo 𝒱₀ ER (sched q) (c : Thread nD τ) none (src := sumM (slotOf k)) (dst := outM c k) (sem := .dma (store (slotOf k))) (q := fullShare.right)
      (fs := sumBuf (slotOf k) (sv q c k)) (fd := f) (r := k.val / 2) (d := true) (κ := K (cell c (.dma (store (slotOf k)))))
      (mem_duties q c _ _ (by rw [use_st]; exact half_lt k) (by rw [use_st]; decide)) 0 N rfl (by rw [amount_eq, use_st]; rfl)
      (by show _ ⊢ usePay q (useOf (.dma (store (slotOf k)))) c (trip (k.val / 2) (slotOfSem (.dma (store (slotOf k))))) true
          rw [use_st, slot_st, trip_slot]
          show _ ⊢ storePay q c k
          unfold storePay
          refine sep_mono_left (Entails.of_eq (vp_congr c (outM c k) fullShare _ _ ?_))
          rw [read_outv_own]; exact (View.read_write_univ _ _).trans (read_sumBuf (slotOf k) (sv q c k)))) $$ [Hq Hl Ht]
  · isplitr; · iapply (inv_at q K c _ (by rw [use_st]; decide)); iexact HR
    isplitl [Hq]; · iexact Hq
    isplitl [Hl]; · iexact Hl
    isplitl [Ht]; · iexact Ht
    iexact Hr
  iexact Hk

end Cert.KernelIdeal.Comm

end
-- ==== Proof.CommWaits.lean ====
/-
  What device c holds of a slot before and after trip k of the communication kernel, and each of a trip's waits with what it
  brings back.
-/
module

public import proofs.«01_k».proof.Proof.CommSteps

@[expose] public section

noncomputable section

namespace Cert.KernelIdeal.Comm

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (q : Dev nD → main_v10.ty.Contents (Elt F))
variable (K : GSem nD τ sig → ℕ) (c : Dev nD) (Q : PUnit → sProp (MM F)) (k : Fin 8)

/-! ## What a device holds -/

/-- Round r of device c's own cell sm is next, and the rounds before are over. -/
abbrev at' (sm : SemLoc sig) (r : ℕ) : sProp (MM F) := iprop(atPos ER (cell c sm) r ∅ 0 ∗ reached ER (cell c sm) r)

/-- Before trip k's sends of the first hop: their cells are at the trip's round, and the neighbour's landing slot is c's. -/
def readyY : sProp (MM F) :=
  iprop(at' c (.dma (sendY (slotOf k))) (k.val / 2) ∗ at' c (.reg (credY (slotOf k))) (k.val / 2)
    ∗ (∃ f, vp (yn c) (landM (slotOf k)) fullShare f) ∗ reached ER (cell (yn c) (.dma (recvY (slotOf k)))) (k.val / 2))
/-- Before trip k's sum is stored and sent. -/
def readyX : sProp (MM F) :=
  iprop(at' c (.dma (sendX (slotOf k))) (k.val / 2) ∗ at' c (.dma (store (slotOf k))) (k.val / 2) ∗ at' c (.reg (credX (slotOf k))) (k.val / 2)
    ∗ (∃ f, vp c (sumM (slotOf k)) fullShare f) ∗ reached ER (cell (xn c) (.dma (recvX (slotOf k)))) (k.val / 2))
/-- What trip k's first hop leaves in flight: the send, and the leave to send again that the neighbour gives while trips
    remain (afterwards the slot stays with c). -/
def pendY : sProp (MM F) :=
  iprop(at' c (.dma (sendY (slotOf k))) (k.val / 2) ∗ cred (tallyAt (cell c (.dma (sendY (slotOf k)))) 0 N) ∗ at' c (.reg (credY (slotOf k))) (k.val / 2)
    ∗ if k.val ≤ 5 then cred (tallyAt (cell c (.reg (credY (slotOf k)))) k.val 1) else iprop(∃ f, vp c (landM (slotOf k)) fullShare f))
def pendX : sProp (MM F) :=
  iprop(at' c (.dma (sendX (slotOf k))) (k.val / 2) ∗ cred (tallyAt (cell c (.dma (sendX (slotOf k)))) 0 N)
    ∗ at' c (.dma (store (slotOf k))) (k.val / 2) ∗ cred (tallyAt (cell c (.dma (store (slotOf k)))) 0 N)
    ∗ at' c (.reg (credX (slotOf k))) (k.val / 2)
    ∗ if k.val ≤ 5 then cred (tallyAt (cell c (.reg (credX (slotOf k)))) k.val 1) else iprop(emp))
/-- A slot's cells that no trip leaves pending, at round r, and the slot of the device's own block. -/
def base (s : Fin 2) (r : ℕ) : sProp (MM F) :=
  iprop((∃ f, vp c (ownM s) fullShare f) ∗ at' c (.dma (semQ s)) r ∗ at' c (.dma (recvY s)) r ∗ at' c (.dma (recvX s)) r)

/-- The trip before last. -/
abbrev prev (k : Fin 8) : Fin 8 := ⟨k.val - 2, by have := k.isLt; omega⟩
theorem slot_prev (h : 2 ≤ k.val) : slotOf (prev k) = slotOf k := by revert k; decide
theorem half_prev (h : 2 ≤ k.val) : (prev k).val / 2 + 1 = k.val / 2 := by show (k.val - 2) / 2 + 1 = _; omega
theorem prev_le : (prev k).val ≤ 5 := by have := k.isLt; show k.val - 2 ≤ 5; omega

/-- The slot before trip k. -/
def before : sProp (MM F) :=
  iprop(base c (slotOf k) (k.val / 2) ∗ (if 2 ≤ k.val then pendY c (prev k) else readyY c k) ∗ (if 2 ≤ k.val then pendX c (prev k) else readyX c k))
/-- The slot after trip k. -/
def after : sProp (MM F) := iprop(base c (slotOf k) (k.val / 2 + 1) ∗ pendY c k ∗ pendX c k)

theorem after_before (h : 2 ≤ k.val) : (after c (prev k) : sProp (MM F)) ⊢ before c k := by
  unfold after before
  rw [if_pos h, if_pos h, slot_prev k h, half_prev k h]

/-- What trip k pays with: the tokens of its duties, -/
def toks : sProp (MM F) :=
  iprop(dutyTok ER (cell c (.dma (sendY (slotOf k)))) (k.val / 2) true ∗ dutyTok ER (cell (yn c) (.dma (recvY (slotOf k)))) (k.val / 2) true
    ∗ dutyTok ER (cell c (.dma (semQ (slotOf k)))) (k.val / 2) true
    ∗ dutyTok ER (cell c (.dma (sendX (slotOf k)))) (k.val / 2) true ∗ dutyTok ER (cell (xn c) (.dma (recvX (slotOf k)))) (k.val / 2) true
    ∗ dutyTok ER (cell c (.dma (store (slotOf k)))) (k.val / 2) true
    ∗ (if k.val ≤ 5 then dutyTok ER (cell (yn c) (.reg (credY (slotOf k)))) (k.val / 2) true else iprop(emp))
    ∗ (if k.val ≤ 5 then dutyTok ER (cell (xn c) (.reg (credX (slotOf k)))) (k.val / 2) true else iprop(emp)))
/-- the credits for what the neighbours send it, -/
def creds : sProp (MM F) :=
  iprop(cred (tallyAt (cell c (.dma (recvY (slotOf k)))) k.val N) ∗ cred (tallyAt (cell c (.dma (recvX (slotOf k)))) k.val N)
    ∗ (if k.val ≤ 5 then cred (tallyAt (cell c (.reg (credY (slotOf k)))) k.val 1) else iprop(emp))
    ∗ (if k.val ≤ 5 then cred (tallyAt (cell c (.reg (credX (slotOf k)))) k.val 1) else iprop(emp)))
/-- and its rows. -/
def rows : sProp (MM F) :=
  iprop(vp c (qM k) fullShare.left (q c) ∗ vp c (qM k) fullShare.right (q c) ∗ (∃ f, vp c (outM c k) fullShare f) ∗ (∃ f, vp (xn c) (outM c k) fullShare f))
/-- What waiting for trip k's first hop brings back; and what waiting for its store does. -/
abbrev backY : sProp (MM F) := vp c (qM k) fullShare.left (q c)
abbrev backX : sProp (MM F) := vp c (outM c k) fullShare (outv q c)
/-- What trip k itself finishes: the other half of its block, and the rows received. -/
def doneNow : sProp (MM F) := iprop(vp c (qM k) fullShare.right (q c) ∗ vp c (outM (xn c) k) fullShare (outv q c))

/-! ## The waits, by cell -/

/-- A wait for a transfer. -/
theorem dma_step (sem : DmaSem sig) (r i : ℕ) (hu : useOf (.dma sem) ≠ .other) (hb : useOf (.dma sem) ≠ .bar) (hr : r < roundsOf (useOf (.dma sem))) (hi : i < 8)
    (hn : useAmt (useOf (.dma sem)) = N) {sp sp' : Space} {s s' : Shape} {e e' : EltTy} {src : Memref sig .tc sp' s' e'} {dst : Memref sig .tc sp s e}
    {hsrc : src.view.WordExact} {hdst : dst.view.WordExact} (hN : dst.view.dmaCredit = N)
    (O : CellTallies nD τ sig ℕ) (ha : Above (lvUse (useOf (.dma sem)) i) O) {kk : PUnit → Pr F} :
    iprop(recs q K ∗ levAts L lv ∗ cred (tallyAt (cell c (.dma sem)) i N) ∗ ow c O ∗ at' c (.dma sem) r)
      ⊢ iprop((ow c O ∗ at' c (.dma sem) (r + 1) ∗ usePay q (useOf (.dma sem)) c (trip r (slotOfSem (.dma sem))) true
          -∗ WP c (kk ⟨⟩) Q) -∗ WP c (.op (.waitDma2 sem src dst hsrc hdst) kk) Q) := by
  iintro ⟨#HR, #HL, Hc, HO, ⟨Hat, -⟩⟩ Hk
  iapply (wait_step q K c Q (.dma sem) r i N hu hb hr hi hn
    (fun k' => (wpE_waitDma2_eq 𝒱₀ (c : Thread nD τ) none Set.univ k').trans (by rw [hN])) O ha) $$ [Hc HO Hat]
  · isplitr; · iexact HR
    isplitr; · iexact HL
    isplitl [Hc]; · iexact Hc
    isplitl [HO]; · iexact HO
    iexact Hat
  iintro ⟨HO, Hat, #Hr, Hp⟩
  iapply Hk
  isplitl [HO]; · iexact HO
  isplitl [Hat]
  · isplitl [Hat]; · iexact Hat
    iexact Hr
  iexact Hp

/-- A wait for a leave to send again. -/
theorem leave_step (sem : Sem sig) (r i : ℕ) (hu : useOf (.reg sem) ≠ .other) (hb : useOf (.reg sem) ≠ .bar) (hr : r < roundsOf (useOf (.reg sem))) (hi : i < 8)
    (hn : useAmt (useOf (.reg sem)) = 1)
    (O : CellTallies nD τ sig ℕ) (ha : Above (lvUse (useOf (.reg sem)) i) O) {kk : PUnit → Pr F} :
    iprop(recs q K ∗ levAts L lv ∗ cred (tallyAt (cell c (.reg sem)) i 1) ∗ ow c O ∗ at' c (.reg sem) r)
      ⊢ iprop((ow c O ∗ at' c (.reg sem) (r + 1) ∗ usePay q (useOf (.reg sem)) c (trip r (slotOfSem (.reg sem))) true
          -∗ WP c (kk ⟨⟩) Q) -∗ WP c (.op (.semWait sem ((1 : ℕ) : ℤ)) kk) Q) := by
  iintro ⟨#HR, #HL, Hc, HO, ⟨Hat, -⟩⟩ Hk
  iapply (wait_step q K c Q (.reg sem) r i 1 hu hb hr hi hn (wpE_semWait_eq 𝒱₀ (c : Thread nD τ) none Set.univ) O ha) $$ [Hc HO Hat]
  · isplitr; · iexact HR
    isplitr; · iexact HL
    isplitl [Hc]; · iexact Hc
    isplitl [HO]; · iexact HO
    iexact Hat
  iintro ⟨HO, Hat, #Hr, Hp⟩
  iapply Hk
  isplitl [HO]; · iexact HO
  isplitl [Hat]
  · isplitl [Hat]; · iexact Hat
    iexact Hr
  iexact Hp

theorem sendY_wait (O : CellTallies nD τ sig ℕ) (ha : Above 0 O) {s : Fin 2} (hs : slotOf k = s)
    {hsrc : (landM s).view.WordExact} {hdst : (qM k).view.WordExact} {kk : PUnit → Pr F} :
    iprop(recs q K ∗ levAts L lv ∗ cred (tallyAt (cell c (.dma (sendY (slotOf k)))) 0 N) ∗ ow c O ∗ at' c (.dma (sendY (slotOf k))) (k.val / 2))
      ⊢ iprop((ow c O ∗ at' c (.dma (sendY (slotOf k))) (k.val / 2 + 1) ∗ backY q c k -∗ WP c (kk ⟨⟩) Q)
        -∗ WP c (.op (.waitDma2 (sendY s) (landM s) (qM k) hsrc hdst) kk) Q) := by
  subst hs
  have h := dma_step q K c Q (sendY (slotOf k)) (k.val / 2) 0 (src := landM (slotOf k)) (dst := qM k) (hsrc := hsrc) (hdst := hdst)
    (by rw [use_sY]; decide) (by rw [use_sY]; decide) (by rw [use_sY]; exact half_lt k) (by decide) (by rw [use_sY]; rfl) rfl O (by rw [use_sY]; exact ha) (kk := kk)
  rw [use_sY, slot_sY, trip_slot] at h
  exact h
theorem sendX_wait (O : CellTallies nD τ sig ℕ) (ha : Above 0 O) {s : Fin 2} (hs : slotOf k = s)
    {hsrc : (outM c k).view.WordExact} {hdst : (sumM s).view.WordExact} {kk : PUnit → Pr F} :
    iprop(recs q K ∗ levAts L lv ∗ cred (tallyAt (cell c (.dma (sendX (slotOf k)))) 0 N) ∗ ow c O ∗ at' c (.dma (sendX (slotOf k))) (k.val / 2))
      ⊢ iprop((ow c O ∗ at' c (.dma (sendX (slotOf k))) (k.val / 2 + 1) ∗ sendXPay q c k -∗ WP c (kk ⟨⟩) Q)
        -∗ WP c (.op (.waitDma2 (sendX s) (outM c k) (sumM s) hsrc hdst) kk) Q) := by
  subst hs
  have h := dma_step q K c Q (sendX (slotOf k)) (k.val / 2) 0 (src := outM c k) (dst := sumM (slotOf k)) (hsrc := hsrc) (hdst := hdst)
    (by rw [use_sX]; decide) (by rw [use_sX]; decide) (by rw [use_sX]; exact half_lt k) (by decide) (by rw [use_sX]; rfl) rfl O (by rw [use_sX]; exact ha) (kk := kk)
  rw [use_sX, slot_sX, trip_slot] at h
  exact h
theorem store_wait (O : CellTallies nD τ sig ℕ) (ha : Above 0 O) {s : Fin 2} (hs : slotOf k = s)
    {hsrc : (sumM s).view.WordExact} {hdst : (outM c k).view.WordExact} {kk : PUnit → Pr F} :
    iprop(recs q K ∗ levAts L lv ∗ cred (tallyAt (cell c (.dma (store (slotOf k)))) 0 N) ∗ ow c O ∗ at' c (.dma (store (slotOf k))) (k.val / 2))
      ⊢ iprop((ow c O ∗ at' c (.dma (store (slotOf k))) (k.val / 2 + 1) ∗ storePay q c k -∗ WP c (kk ⟨⟩) Q)
        -∗ WP c (.op (.waitDma2 (store s) (sumM s) (outM c k) hsrc hdst) kk) Q) := by
  subst hs
  have h := dma_step q K c Q (store (slotOf k)) (k.val / 2) 0 (src := sumM (slotOf k)) (dst := outM c k) (hsrc := hsrc) (hdst := hdst)
    (by rw [use_st]; decide) (by rw [use_st]; decide) (by rw [use_st]; exact half_lt k) (by decide) (by rw [use_st]; rfl) rfl O (by rw [use_st]; exact ha) (kk := kk)
  rw [use_st, slot_st, trip_slot] at h
  exact h
theorem semQ_wait (O : CellTallies nD τ sig ℕ) (ha : Above 0 O) {kk : PUnit → Pr F} {hsrc : (qM k).view.WordExact} {hdst : (ownM (slotOf k)).view.WordExact} :
    iprop(recs q K ∗ levAts L lv ∗ cred (tallyAt (cell c (.dma (semQ (slotOf k)))) 0 N) ∗ ow c O ∗ at' c (.dma (semQ (slotOf k))) (k.val / 2))
      ⊢ iprop((ow c O ∗ at' c (.dma (semQ (slotOf k))) (k.val / 2 + 1) ∗ semQPay q c k -∗ WP c (kk ⟨⟩) Q)
        -∗ WP c (.op (.waitDma2 (semQ (slotOf k)) (qM k) (ownM (slotOf k)) hsrc hdst) kk) Q) := by
  have h := dma_step q K c Q (semQ (slotOf k)) (k.val / 2) 0 (src := qM k) (dst := ownM (slotOf k)) (hsrc := hsrc) (hdst := hdst)
    (by rw [use_q]; decide) (by rw [use_q]; decide) (by rw [use_q]; exact half_lt k) (by decide) (by rw [use_q]; rfl) rfl O (by rw [use_q]; exact ha) (kk := kk)
  rw [use_q, slot_q, trip_slot] at h
  exact h
theorem recvY_wait (O : CellTallies nD τ sig ℕ) (ha : Above (10 + 4 * k.val) O) {kk : PUnit → Pr F} {hsrc : (qM k).view.WordExact} {hdst : (landM (slotOf k)).view.WordExact} :
    iprop(recs q K ∗ levAts L lv ∗ cred (tallyAt (cell c (.dma (recvY (slotOf k)))) k.val N) ∗ ow c O ∗ at' c (.dma (recvY (slotOf k))) (k.val / 2))
      ⊢ iprop((ow c O ∗ at' c (.dma (recvY (slotOf k))) (k.val / 2 + 1) ∗ recvYPay q c k -∗ WP c (kk ⟨⟩) Q)
        -∗ WP c (.op (.waitDma2 (recvY (slotOf k)) (qM k) (landM (slotOf k)) hsrc hdst) kk) Q) := by
  have h := dma_step q K c Q (recvY (slotOf k)) (k.val / 2) k.val (src := qM k) (dst := landM (slotOf k)) (hsrc := hsrc) (hdst := hdst)
    (by rw [use_rY]; decide) (by rw [use_rY]; decide) (by rw [use_rY]; exact half_lt k) k.isLt (by rw [use_rY]; rfl) rfl O (by rw [use_rY]; exact ha) (kk := kk)
  rw [use_rY, slot_rY, trip_slot] at h
  exact h
theorem recvX_wait (O : CellTallies nD τ sig ℕ) (ha : Above (12 + 4 * k.val) O) {kk : PUnit → Pr F} {hsrc : (sumM (slotOf k)).view.WordExact} {hdst : (inM c k).view.WordExact} :
    iprop(recs q K ∗ levAts L lv ∗ cred (tallyAt (cell c (.dma (recvX (slotOf k)))) k.val N) ∗ ow c O ∗ at' c (.dma (recvX (slotOf k))) (k.val / 2))
      ⊢ iprop((ow c O ∗ at' c (.dma (recvX (slotOf k))) (k.val / 2 + 1) ∗ recvXPay q c k -∗ WP c (kk ⟨⟩) Q)
        -∗ WP c (.op (.waitDma2 (recvX (slotOf k)) (sumM (slotOf k)) (inM c k) hsrc hdst) kk) Q) := by
  have h := dma_step q K c Q (recvX (slotOf k)) (k.val / 2) k.val (src := sumM (slotOf k)) (dst := inM c k) (hsrc := hsrc) (hdst := hdst)
    (by rw [use_rX]; decide) (by rw [use_rX]; decide) (by rw [use_rX]; exact half_lt k) k.isLt (by rw [use_rX]; rfl) rfl O (by rw [use_rX]; exact ha) (kk := kk)
  rw [use_rX, slot_rX, trip_slot] at h
  exact h
theorem credY_wait (h5 : k.val ≤ 5) (O : CellTallies nD τ sig ℕ) (ha : Above (11 + 4 * k.val) O) {s : Fin 2} (hs : slotOf k = s) {kk : PUnit → Pr F} :
    iprop(recs q K ∗ levAts L lv ∗ cred (tallyAt (cell c (.reg (credY (slotOf k)))) k.val 1) ∗ ow c O ∗ at' c (.reg (credY (slotOf k))) (k.val / 2))
      ⊢ iprop((ow c O ∗ at' c (.reg (credY (slotOf k))) (k.val / 2 + 1) ∗ credYPay c k -∗ WP c (kk ⟨⟩) Q)
        -∗ WP c (.op (.semWait (credY s) ((1 : ℕ) : ℤ)) kk) Q) := by
  subst hs
  have h := leave_step q K c Q (credY (slotOf k)) (k.val / 2) k.val
    (by rw [use_crY]; decide) (by rw [use_crY]; decide) (by rw [use_crY]; show k.val / 2 < 3; omega) k.isLt (by rw [use_crY]; rfl) O (by rw [use_crY]; exact ha) (kk := kk)
  rw [use_crY, slot_crY, trip_slot] at h
  exact h
theorem credX_wait (h5 : k.val ≤ 5) (O : CellTallies nD τ sig ℕ) (ha : Above (13 + 4 * k.val) O) {s : Fin 2} (hs : slotOf k = s) {kk : PUnit → Pr F} :
    iprop(recs q K ∗ levAts L lv ∗ cred (tallyAt (cell c (.reg (credX (slotOf k)))) k.val 1) ∗ ow c O ∗ at' c (.reg (credX (slotOf k))) (k.val / 2))
      ⊢ iprop((ow c O ∗ at' c (.reg (credX (slotOf k))) (k.val / 2 + 1) ∗ credXPay c k -∗ WP c (kk ⟨⟩) Q)
        -∗ WP c (.op (.semWait (credX s) ((1 : ℕ) : ℤ)) kk) Q) := by
  subst hs
  have h := leave_step q K c Q (credX (slotOf k)) (k.val / 2) k.val
    (by rw [use_crX]; decide) (by rw [use_crX]; decide) (by rw [use_crX]; show k.val / 2 < 3; omega) k.isLt (by rw [use_crX]; rfl) O (by rw [use_crX]; exact ha) (kk := kk)
  rw [use_crX, slot_crX, trip_slot] at h
  exact h

end Cert.KernelIdeal.Comm

end
-- ==== Proof.CommTrip.lean ====
/-
  One trip of the communication kernel, at any trip k on any device c: the run of each of its pieces, and of the whole.
-/
module

public import proofs.«01_k».proof.Proof.CommWaits

@[expose] public section

noncomputable section

namespace Cert.KernelIdeal.Comm

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (q : Dev nD → main_v10.ty.Contents (Elt F))
variable (K : GSem nD τ sig → ℕ) (c : Dev nD) (Q : PUnit → sProp (MM F)) (k : Fin 8)

/-- Reassembling a sum slot from its halves. -/
theorem join_sum (f : Buf (Elt F) ((sumM (slotOf k)).view.loc (c : Thread nD τ))) :
    iprop(vp c (sumM (slotOf k)) fullShare.left f ∗ vp c (sumM (slotOf k)) fullShare.right f) ⊢ (iprop(∃ f, vp c (sumM (slotOf k)) fullShare f) : sProp (MM F)) := by
  refine BIBase.Entails.trans (vp_halves c (sumM (slotOf k)) f).2 ?_
  iintro H
  iexists f
  iexact H

/-- The first hop's waits. -/
theorem drainY_wp (O : CellTallies nD τ sig ℕ) (ha : Above (9 + 4 * k.val) O) (p : Pr F) :
    iprop(recs q K ∗ levAts L lv ∗ ow c O ∗ (if 2 ≤ k.val then pendY c (prev k) else readyY c k))
      ⊢ iprop((ow c O ∗ readyY c k ∗ (if 2 ≤ k.val then backY q c (prev k) else iprop(emp)) -∗ WP c p Q) -∗ WP c (drainY k p) Q) := by
  unfold drainY
  by_cases h : 2 ≤ k.val
  · rw [if_pos h, if_pos h, dif_pos h]
    unfold pendY
    rw [if_pos (prev_le k)]
    have hs := slot_prev k h
    have hh := half_prev k h
    iintro ⟨#HR, #HL, HO, Ha1, Hc1, Ha2, Hc2⟩ Hk
    iapply (sendY_wait q K c Q (prev k) O (ha.mono (Nat.zero_le _)) hs) $$ [Hc1 HO Ha1]
    · isplitr; · iexact HR
      isplitr; · iexact HL
      isplitl [Hc1]; · iexact Hc1
      isplitl [HO]; · iexact HO
      iexact Ha1
    iintro ⟨HO, Ha1, Hb⟩
    iapply (credY_wait q K c Q (prev k) (prev_le k) O (ha.mono (by show 11 + 4 * (k.val - 2) ≤ _; omega)) hs) $$ [Hc2 HO Ha2]
    · isplitr; · iexact HR
      isplitr; · iexact HL
      isplitl [Hc2]; · iexact Hc2
      isplitl [HO]; · iexact HO
      iexact Ha2
    iintro ⟨HO, Ha2, Hp⟩
    iapply Hk
    isplitl [HO]; · iexact HO
    isplitr [Hb]
    · unfold readyY credYPay
      rw [hs, hh]
      icases Hp with ⟨Hl, Hr⟩
      isplitl [Ha1]; · iexact Ha1
      isplitl [Ha2]; · iexact Ha2
      isplitl [Hl]; · iexact Hl
      iexact Hr
    iexact Hb
  · rw [if_neg h, if_neg h, dif_neg h]
    iintro ⟨-, -, HO, Hr⟩ Hk
    iapply Hk
    isplitl [HO]; · iexact HO
    isplitl [Hr]; · iexact Hr
    iempintro

/-- The second hop's waits. -/
theorem drainX_wp (O : CellTallies nD τ sig ℕ) (ha : Above (9 + 4 * k.val) O) (p : Pr F) :
    iprop(recs q K ∗ levAts L lv ∗ ow c O ∗ (if 2 ≤ k.val then pendX c (prev k) else readyX c k))
      ⊢ iprop((ow c O ∗ readyX c k ∗ (if 2 ≤ k.val then backX q c (prev k) else iprop(emp)) -∗ WP c p Q) -∗ WP c (drainX c k p) Q) := by
  unfold drainX
  by_cases h : 2 ≤ k.val
  · rw [if_pos h, if_pos h, dif_pos h]
    unfold pendX
    rw [if_pos (prev_le k)]
    have hs := slot_prev k h
    have hh := half_prev k h
    iintro ⟨#HR, #HL, HO, Ha1, Hc1, Ha2, Hc2, Ha3, Hc3⟩ Hk
    iapply (sendX_wait q K c Q (prev k) O (ha.mono (Nat.zero_le _)) hs) $$ [Hc1 HO Ha1]
    · isplitr; · iexact HR
      isplitr; · iexact HL
      isplitl [Hc1]; · iexact Hc1
      isplitl [HO]; · iexact HO
      iexact Ha1
    iintro ⟨HO, Ha1, Hb1⟩
    iapply (store_wait q K c Q (prev k) O (ha.mono (Nat.zero_le _)) hs) $$ [Hc2 HO Ha2]
    · isplitr; · iexact HR
      isplitr; · iexact HL
      isplitl [Hc2]; · iexact Hc2
      isplitl [HO]; · iexact HO
      iexact Ha2
    iintro ⟨HO, Ha2, Hb2⟩
    iapply (credX_wait q K c Q (prev k) (prev_le k) O (ha.mono (by show 13 + 4 * (k.val - 2) ≤ _; omega)) hs) $$ [Hc3 HO Ha3]
    · isplitr; · iexact HR
      isplitr; · iexact HL
      isplitl [Hc3]; · iexact Hc3
      isplitl [HO]; · iexact HO
      iexact Ha3
    iintro ⟨HO, Ha3, Hp⟩
    unfold sendXPay storePay credXPay
    icases Hb2 with ⟨Hb, Hb2⟩
    ihave Hs := (join_sum c (prev k) _) $$ [Hb1 Hb2]
    · isplitl [Hb1]; · iexact Hb1
      iexact Hb2
    iapply Hk
    isplitl [HO]; · iexact HO
    isplitr [Hb]
    · unfold readyX
      rw [hs, hh]
      isplitl [Ha1]; · iexact Ha1
      isplitl [Ha2]; · iexact Ha2
      isplitl [Ha3]; · iexact Ha3
      isplitl [Hs]; · iexact Hs
      iexact Hp
    iexact Hb
  · rw [if_neg h, if_neg h, dif_neg h]
    iintro ⟨-, -, HO, Hr⟩ Hk
    iapply Hk
    isplitl [HO]; · iexact HO
    isplitl [Hr]; · iexact Hr
    iempintro

/-- The two sends of the block. -/
theorem sendQ_wp (O : CellTallies nD τ sig ℕ) (p : Pr F) :
    iprop(recs q K ∗ ow c (O + oweRY c k) ∗ readyY c k ∗ vp c (qM k) fullShare.left (q c) ∗ vp c (qM k) fullShare.right (q c)
        ∗ (∃ f, vp c (ownM (slotOf k)) fullShare f) ∗ reached ER (cell c (.dma (semQ (slotOf k)))) (k.val / 2)
        ∗ dutyTok ER (cell c (.dma (sendY (slotOf k)))) (k.val / 2) true ∗ dutyTok ER (cell (yn c) (.dma (recvY (slotOf k)))) (k.val / 2) true
        ∗ dutyTok ER (cell c (.dma (semQ (slotOf k)))) (k.val / 2) true)
      ⊢ iprop((ow c O ∗ at' c (.dma (sendY (slotOf k))) (k.val / 2) ∗ at' c (.reg (credY (slotOf k))) (k.val / 2)
          ∗ cred (tallyAt (cell c (.dma (sendY (slotOf k)))) 0 N) ∗ cred (tallyAt (cell c (.dma (semQ (slotOf k)))) 0 N) -∗ WP c p Q)
        -∗ WP c (sendQ k (yn c) p) Q) := by
  unfold sendQ readyY
  iintro ⟨#HR, HO, ⟨⟨Ha1, #Hr1⟩, ⟨Ha2, #Hr2⟩, ⟨%fl, Hl⟩, #Hr3⟩, Hq1, Hq2, ⟨%fo, Ho⟩, #Hr4, Ht1, Ht2, Ht3⟩ Hk
  iapply (sendY_step q K c Q k fl O) $$ [Hq1 Hl HO Ht1 Ht2]
  · isplitr; · iexact HR
    isplitl [Hq1]; · iexact Hq1
    isplitl [Hl]; · iexact Hl
    isplitr; · iexact Hr2
    isplitl [HO]; · iexact HO
    isplitl [Ht1]; · iexact Ht1
    isplitr; · iexact Hr1
    isplitl [Ht2]; · iexact Ht2
    iexact Hr3
  iintro ⟨Hc1, HO⟩
  iapply (own_step q K c Q k fo) $$ [Hq2 Ho Ht3]
  · isplitr; · iexact HR
    isplitl [Hq2]; · iexact Hq2
    isplitl [Ho]; · iexact Ho
    isplitl [Ht3]; · iexact Ht3
    iexact Hr4
  iintro Hc2
  iapply Hk
  isplitl [HO]; · iexact HO
  isplitl [Ha1]
  · isplitl [Ha1]; · iexact Ha1
    iexact Hr1
  isplitl [Ha2]
  · isplitl [Ha2]; · iexact Ha2
    iexact Hr2
  isplitl [Hc1]; · iexact Hc1
  iexact Hc2

/-- The two arrivals added up into the sum slot. -/
theorem addUp_wp (O : CellTallies nD τ sig ℕ) (ha : Above (10 + 4 * k.val) O) (p : Pr F) :
    iprop(recs q K ∗ levAts L lv ∗ ow c O ∗ cred (tallyAt (cell c (.dma (recvY (slotOf k)))) k.val N) ∗ at' c (.dma (recvY (slotOf k))) (k.val / 2)
        ∗ cred (tallyAt (cell c (.dma (semQ (slotOf k)))) 0 N) ∗ at' c (.dma (semQ (slotOf k))) (k.val / 2) ∗ (∃ f, vp c (sumM (slotOf k)) fullShare f))
      ⊢ iprop((ow c O ∗ at' c (.dma (recvY (slotOf k))) (k.val / 2 + 1) ∗ at' c (.dma (semQ (slotOf k))) (k.val / 2 + 1)
          ∗ (∃ f, vp c (ownM (slotOf k)) fullShare f) ∗ (∃ f, vp c (landM (slotOf k)) fullShare f) ∗ vp c (sumM (slotOf k)) fullShare (sumBuf (slotOf k) (sv q c k))
          ∗ vp c (qM k) fullShare.right (q c) ∗ reached ER (cell (yn c) (.reg (credY (slotOf k)))) (k.val / 2) -∗ WP c p Q)
        -∗ WP c (addUp k p) Q) := by
  unfold addUp
  iintro ⟨#HR, #HL, HO, Hc1, Ha1, Hc2, Ha2, ⟨%fs, Hs⟩⟩ Hk
  iapply (recvY_wait q K c Q k O ha) $$ [Hc1 HO Ha1]
  · isplitr; · iexact HR
    isplitr; · iexact HL
    isplitl [Hc1]; · iexact Hc1
    isplitl [HO]; · iexact HO
    iexact Ha1
  iintro ⟨HO, Ha1, Hp1⟩
  iapply (semQ_wait q K c Q k O (ha.mono (Nat.zero_le _))) $$ [Hc2 HO Ha2]
  · isplitr; · iexact HR
    isplitr; · iexact HL
    isplitl [Hc2]; · iexact Hc2
    isplitl [HO]; · iexact HO
    iexact Ha2
  iintro ⟨HO, Ha2, Hp2⟩
  unfold recvYPay semQPay
  icases Hp1 with ⟨Hl, #Hr⟩
  icases Hp2 with ⟨Ho, Hq⟩
  iapply (wp_load 𝒱₀ (c : Thread nD τ) none Set.univ (own_set (slotOf k)).ge) $$ Ho
  iintro Ho
  iapply (wp_load 𝒱₀ (c : Thread nD τ) none Set.univ (land_set (slotOf k)).ge) $$ Hl
  iintro Hl
  iapply (wp_load 𝒱₀ (c : Thread nD τ) none Set.univ (sum_set (slotOf k)).ge) $$ Hs
  iintro Hs
  iapply (wp_store 𝒱₀ (c : Thread nD τ) none Set.univ (sum_set' (slotOf k)).ge) $$ Hs
  iintro Hs
  iapply Hk
  isplitl [HO]; · iexact HO
  isplitl [Ha1]; · iexact Ha1
  isplitl [Ha2]; · iexact Ha2
  isplitl [Ho]; · iexists _; iexact Ho
  isplitl [Hl]; · iexists _; iexact Hl
  isplitl [Hs]
  · iapply (Entails.of_eq (vp_congr c (sumM (slotOf k)) fullShare _ _ ((stored_sum (slotOf k) (qv q c k) (qv q (yn c) k) fs).trans (read_sumBuf (slotOf k) (sv q c k)).symm)))
    iexact Hs
  isplitl [Hq]; · iexact Hq
  iexact Hr

/-- What a leave hands over, told from the side that gives it. -/
theorem leaveY_pay : usePay q .crY (yn c) k true
    = iprop((∃ f, vp c (landM (slotOf k)) fullShare f) ∗ reached ER (cell c (.dma (recvY (slotOf k)))) (k.val / 2 + 1)) := by
  show credYPay (yn c) k = _
  unfold credYPay
  rw [yn_yn]
theorem leaveX_pay : usePay q .crX (xn c) k true = reached ER (cell c (.dma (recvX (slotOf k)))) (k.val / 2 + 1) := by
  show credXPay (xn c) k = _
  unfold credXPay
  rw [xn_xn]

/-- The leave given to `yn c`; at the last trips the landing slot stays. -/
theorem grantY_wp (O : CellTallies nD τ sig ℕ) (p : Pr F) :
    iprop(recs q K ∗ ow c (O + oweCY c k) ∗ (if k.val ≤ 5 then dutyTok ER (cell (yn c) (.reg (credY (slotOf k)))) (k.val / 2) true else iprop(emp))
        ∗ (∃ f, vp c (landM (slotOf k)) fullShare f) ∗ reached ER (cell c (.dma (recvY (slotOf k)))) (k.val / 2 + 1)
        ∗ (if k.val ≤ 5 then cred (tallyAt (cell c (.reg (credY (slotOf k)))) k.val 1) else iprop(emp))
        ∗ reached ER (cell (yn c) (.reg (credY (slotOf k)))) (k.val / 2))
      ⊢ iprop((ow c O ∗ (if k.val ≤ 5 then cred (tallyAt (cell c (.reg (credY (slotOf k)))) k.val 1) else iprop(∃ f, vp c (landM (slotOf k)) fullShare f)) -∗ WP c p Q)
        -∗ WP c (grant k (credY (slotOf k)) (yn c) p) Q) := by
  unfold grant oweCY
  by_cases h : k.val ≤ 5
  · rw [if_pos h, if_pos h, if_pos h, if_pos h, if_pos h]
    have hs := signal_step q K c Q (yn c) (credY (slotOf k)) (k.val / 2) k.val true (by rw [use_crY]; decide)
      (mem_duties q (yn c) _ _ (by rw [use_crY]; show _ < 3; omega) (by rw [use_crY]; decide)) (by rw [use_crY]; rfl) O (k := fun _ => p)
    rw [use_crY, slot_crY, trip_slot, leaveY_pay] at hs
    iintro ⟨#HR, HO, Ht, Hl, #Hr1, Hc, #Hr2⟩ Hk
    iapply hs $$ [HO Ht Hl]
    · isplitr; · iexact HR
      isplitl [HO]; · iexact HO
      isplitl [Ht]; · iexact Ht
      isplitl [Hl]
      · isplitl [Hl]; · iexact Hl
        iexact Hr1
      iexact Hr2
    iintro HO
    iapply Hk
    isplitl [HO]; · iexact HO
    iexact Hc
  · rw [if_neg h, if_neg h, if_neg h, if_neg h, if_neg h, add_zero]
    iintro ⟨-, HO, -, Hl, -, -, -⟩ Hk
    iapply Hk
    isplitl [HO]; · iexact HO
    iexact Hl

/-- The leave given to `xn c`. -/
theorem grantX_wp (O : CellTallies nD τ sig ℕ) (p : Pr F) :
    iprop(recs q K ∗ ow c (O + oweCX c k) ∗ (if k.val ≤ 5 then dutyTok ER (cell (xn c) (.reg (credX (slotOf k)))) (k.val / 2) true else iprop(emp))
        ∗ reached ER (cell c (.dma (recvX (slotOf k)))) (k.val / 2 + 1) ∗ reached ER (cell (xn c) (.reg (credX (slotOf k)))) (k.val / 2))
      ⊢ iprop((ow c O -∗ WP c p Q) -∗ WP c (grant k (credX (slotOf k)) (xn c) p) Q) := by
  unfold grant oweCX
  by_cases h : k.val ≤ 5
  · rw [if_pos h, if_pos h, if_pos h]
    have hs := signal_step q K c Q (xn c) (credX (slotOf k)) (k.val / 2) k.val true (by rw [use_crX]; decide)
      (mem_duties q (xn c) _ _ (by rw [use_crX]; show _ < 3; omega) (by rw [use_crX]; decide)) (by rw [use_crX]; rfl) O (k := fun _ => p)
    rw [use_crX, slot_crX, trip_slot, leaveX_pay] at hs
    iintro ⟨#HR, HO, Ht, #Hr1, #Hr2⟩ Hk
    iapply hs $$ [HO Ht]
    · isplitr; · iexact HR
      isplitl [HO]; · iexact HO
      isplitl [Ht]; · iexact Ht
      isplitr; · iexact Hr1
      iexact Hr2
    iexact Hk
  · rw [if_neg h, if_neg h, if_neg h, add_zero]
    iintro ⟨-, HO, -, -, -⟩ Hk
    iapply Hk
    iexact HO

/-- The two sends of the sum. -/
theorem sendSum_wp (O : CellTallies nD τ sig ℕ) (p : Pr F) :
    iprop(recs q K ∗ ow c (O + oweRX c k) ∗ vp c (sumM (slotOf k)) fullShare (sumBuf (slotOf k) (sv q c k))
        ∗ (∃ f, vp c (outM c k) fullShare f) ∗ (∃ f, vp (xn c) (outM c k) fullShare f)
        ∗ reached ER (cell c (.reg (credX (slotOf k)))) (k.val / 2) ∗ reached ER (cell c (.dma (sendX (slotOf k)))) (k.val / 2)
        ∗ reached ER (cell c (.dma (store (slotOf k)))) (k.val / 2) ∗ reached ER (cell (xn c) (.dma (recvX (slotOf k)))) (k.val / 2)
        ∗ dutyTok ER (cell c (.dma (sendX (slotOf k)))) (k.val / 2) true ∗ dutyTok ER (cell (xn c) (.dma (recvX (slotOf k)))) (k.val / 2) true
        ∗ dutyTok ER (cell c (.dma (store (slotOf k)))) (k.val / 2) true)
      ⊢ iprop((ow c O ∗ cred (tallyAt (cell c (.dma (sendX (slotOf k)))) 0 N) ∗ cred (tallyAt (cell c (.dma (store (slotOf k)))) 0 N) -∗ WP c p Q)
        -∗ WP c (sendSum c k (xn c) p) Q) := by
  unfold sendSum
  iintro ⟨#HR, HO, Hs, ⟨%fo, Ho⟩, ⟨%fx, Hx⟩, #Hr1, #Hr2, #Hr3, #Hr4, Ht1, Ht2, Ht3⟩ Hk
  ihave Hh := (vp_halves c (sumM (slotOf k)) (sumBuf (slotOf k) (sv q c k))).1 $$ Hs
  icases Hh with ⟨Hs1, Hs2⟩
  iapply (sendX_step q K c Q k fx O) $$ [Hs1 Hx HO Ht1 Ht2]
  · isplitr; · iexact HR
    isplitl [Hs1]; · iexact Hs1
    isplitl [Hx]; · iexact Hx
    isplitr; · iexact Hr1
    isplitl [HO]; · iexact HO
    isplitl [Ht1]; · iexact Ht1
    isplitr; · iexact Hr2
    isplitl [Ht2]; · iexact Ht2
    iexact Hr4
  iintro ⟨Hc1, HO⟩
  iapply (store_step q K c Q k fo) $$ [Hs2 Ho Ht3]
  · isplitr; · iexact HR
    isplitl [Hs2]; · iexact Hs2
    isplitl [Ho]; · iexact Ho
    isplitl [Ht3]; · iexact Ht3
    iexact Hr3
  iintro Hc2
  iapply Hk
  isplitl [HO]; · iexact HO
  isplitl [Hc1]; · iexact Hc1
  iexact Hc2

/-- What trip k pays with: the rest of what it owes follows. -/
theorem owe_order (O : CellTallies nD τ sig ℕ) :
    oweTrip c k + O = (((O + oweCX c k) + oweRX c k) + oweCY c k) + oweRY c k := by
  unfold oweTrip
  ac_rfl

/-- What trip k gives back. -/
def tripDone : sProp (MM F) :=
  iprop(doneNow q c k ∗ (if 2 ≤ k.val then backY q c (prev k) else iprop(emp)) ∗ (if 2 ≤ k.val then backX q c (prev k) else iprop(emp)))

/-- Trip k. -/
theorem chunk_wp (p : Pr F) :
    iprop(recs q K ∗ levAts L lv ∗ ow c (oweFrom c k.val) ∗ before c k ∗ toks c k ∗ creds c k ∗ rows q c k)
      ⊢ iprop((ow c (oweFrom c (k.val + 1)) ∗ after c k ∗ tripDone q c k -∗ WP c p Q) -∗ WP c (chunk c k (yn c) (yn c) (xn c) (xn c) p) Q) := by
  have h0 := above_from c (k.val + 1) (12 + 4 * k.val) (by omega)
  have h1 := h0.add (above_CX c k (12 + 4 * k.val) (by omega))
  have h2 := (h1.mono (b' := 10 + 4 * k.val) (by omega)).add (above_RX c k (10 + 4 * k.val) (by omega))
  have h3 := h2.add (above_CY c k (10 + 4 * k.val) (by omega))
  have h4 := (h3.mono (b' := 9 + 4 * k.val) (by omega)).add (above_RY c k (9 + 4 * k.val) (by omega))
  rw [oweFrom_step c k, owe_order]
  unfold chunk before toks creds rows base
  iintro ⟨#HR, #HL, HO, ⟨⟨Ho, ⟨HaQ, #HrQ⟩, HaRY, HaRX⟩, HY, HX⟩, ⟨Ht1, Ht2, Ht3, Ht4, Ht5, Ht6, Ht7, Ht8⟩, ⟨Hc1, Hc2, Hc3, Hc4⟩, Hq1, Hq2, Hu1, Hu2⟩ Hk
  iapply (drainY_wp q K c Q k _ h4 _) $$ [HO HY]
  · isplitr; · iexact HR
    isplitr; · iexact HL
    isplitl [HO]; · iexact HO
    iexact HY
  iintro ⟨HO, HY, HbY⟩
  iapply (sendQ_wp q K c Q k _ _) $$ [HO HY Hq1 Hq2 Ho Ht1 Ht2 Ht3]
  · isplitr; · iexact HR
    isplitl [HO]; · iexact HO
    isplitl [HY]; · iexact HY
    isplitl [Hq1]; · iexact Hq1
    isplitl [Hq2]; · iexact Hq2
    isplitl [Ho]; · iexact Ho
    isplitr; · iexact HrQ
    isplitl [Ht1]; · iexact Ht1
    isplitl [Ht2]; · iexact Ht2
    iexact Ht3
  iintro ⟨HO, HaSY, HaCY, HcSY, HcQ⟩
  iapply (drainX_wp q K c Q k _ (h3.mono (by omega)) _) $$ [HO HX]
  · isplitr; · iexact HR
    isplitr; · iexact HL
    isplitl [HO]; · iexact HO
    iexact HX
  iintro ⟨HO, HX, HbX⟩
  unfold readyX
  icases HX with ⟨HaSX, HaST, HaCX, Hs, #HrRX⟩
  iapply (addUp_wp q K c Q k _ h3 _) $$ [HO Hc1 HaRY HcQ HaQ Hs]
  · isplitr; · iexact HR
    isplitr; · iexact HL
    isplitl [HO]; · iexact HO
    isplitl [Hc1]; · iexact Hc1
    isplitl [HaRY]; · iexact HaRY
    isplitl [HcQ]; · iexact HcQ
    isplitl [HaQ]
    · unfold at'
      isplitl [HaQ]; · iexact HaQ
      iexact HrQ
    iexact Hs
  iintro ⟨HO, ⟨HaRY, #HrRY⟩, HaQ, Ho, Hl, Hs, Hq2, #HrCY⟩
  iapply (grantY_wp q K c Q k _ _) $$ [HO Ht7 Hl Hc3]
  · isplitr; · iexact HR
    isplitl [HO]; · iexact HO
    isplitl [Ht7]; · iexact Ht7
    isplitl [Hl]; · iexact Hl
    isplitr; · iexact HrRY
    isplitl [Hc3]; · iexact Hc3
    iexact HrCY
  iintro ⟨HO, HlY⟩
  icases HaSX with ⟨HaSX, #HrSX⟩
  icases HaST with ⟨HaST, #HrST⟩
  icases HaCX with ⟨HaCX, #HrCX⟩
  iapply (sendSum_wp q K c Q k _ _) $$ [HO Hs Hu1 Hu2 Ht4 Ht5 Ht6]
  · isplitr; · iexact HR
    isplitl [HO]; · iexact HO
    isplitl [Hs]; · iexact Hs
    isplitl [Hu1]; · iexact Hu1
    isplitl [Hu2]; · iexact Hu2
    isplitr; · iexact HrCX
    isplitr; · iexact HrSX
    isplitr; · iexact HrST
    isplitr; · iexact HrRX
    isplitl [Ht4]; · iexact Ht4
    isplitl [Ht5]; · iexact Ht5
    iexact Ht6
  iintro ⟨HO, HcSX, HcST⟩
  unfold takeIn
  iapply (recvX_wait q K c Q k _ h1) $$ [HO Hc2 HaRX]
  · isplitr; · iexact HR
    isplitr; · iexact HL
    isplitl [Hc2]; · iexact Hc2
    isplitl [HO]; · iexact HO
    iexact HaRX
  iintro ⟨HO, ⟨HaRX, #HrRX1⟩, Hp⟩
  unfold recvXPay
  icases Hp with ⟨Hin, #HrCXx⟩
  iapply (grantX_wp q K c Q k _ _) $$ [HO Ht8]
  · isplitr; · iexact HR
    isplitl [HO]; · iexact HO
    isplitl [Ht8]; · iexact Ht8
    isplitr; · iexact HrRX1
    iexact HrCXx
  iintro HO
  iapply Hk
  isplitl [HO]; · iexact HO
  unfold after base pendY pendX tripDone doneNow
  isplitr [Hq2 Hin HbY HbX]
  · isplitl [Ho HaQ HaRY HaRX]
    · isplitl [Ho]; · iexact Ho
      isplitl [HaQ]; · iexact HaQ
      isplitl [HaRY]
      · isplitl [HaRY]; · iexact HaRY
        iexact HrRY
      isplitl [HaRX]; · iexact HaRX
      iexact HrRX1
    isplitl [HaSY HcSY HaCY HlY]
    · isplitl [HaSY]; · iexact HaSY
      isplitl [HcSY]; · iexact HcSY
      isplitl [HaCY]; · iexact HaCY
      iexact HlY
    isplitl [HaSX]
    · isplitl [HaSX]; · iexact HaSX
      iexact HrSX
    isplitl [HcSX]; · iexact HcSX
    isplitl [HaST]
    · isplitl [HaST]; · iexact HaST
      iexact HrST
    isplitl [HcST]; · iexact HcST
    isplitl [HaCX]
    · isplitl [HaCX]; · iexact HaCX
      iexact HrCX
    iexact Hc4
  isplitl [Hq2 Hin]
  · isplitl [Hq2]; · iexact Hq2
    iexact Hin
  isplitl [HbY]; · iexact HbY
  iexact HbX

/-- The last waits, for trip k of the last two. -/
theorem last_wp (h : ¬ k.val ≤ 5) (p : Pr F) :
    iprop(recs q K ∗ levAts L lv ∗ ow c 0 ∗ pendY c k ∗ pendX c k)
      ⊢ iprop((ow c 0 ∗ backY q c k ∗ backX q c k
          ∗ at' c (.dma (sendY (slotOf k))) (k.val / 2 + 1) ∗ at' c (.reg (credY (slotOf k))) (k.val / 2)
          ∗ at' c (.dma (sendX (slotOf k))) (k.val / 2 + 1) ∗ at' c (.dma (store (slotOf k))) (k.val / 2 + 1) ∗ at' c (.reg (credX (slotOf k))) (k.val / 2)
          ∗ (∃ f, vp c (landM (slotOf k)) fullShare f) ∗ (∃ f, vp c (sumM (slotOf k)) fullShare f) -∗ WP c p Q) -∗ WP c (last c k p) Q) := by
  unfold last pendY pendX
  rw [if_neg h, if_neg h]
  iintro ⟨#HR, #HL, HO, ⟨Ha1, Hc1, Ha2, Hl⟩, Ha3, Hc3, Ha4, Hc4, Ha5, -⟩ Hk
  iapply (sendY_wait q K c Q k 0 (.zero 0) rfl) $$ [Hc1 HO Ha1]
  · isplitr; · iexact HR
    isplitr; · iexact HL
    isplitl [Hc1]; · iexact Hc1
    isplitl [HO]; · iexact HO
    iexact Ha1
  iintro ⟨HO, Ha1, Hb⟩
  iapply (sendX_wait q K c Q k 0 (.zero 0) rfl) $$ [Hc3 HO Ha3]
  · isplitr; · iexact HR
    isplitr; · iexact HL
    isplitl [Hc3]; · iexact Hc3
    isplitl [HO]; · iexact HO
    iexact Ha3
  iintro ⟨HO, Ha3, Hb1⟩
  iapply (store_wait q K c Q k 0 (.zero 0) rfl) $$ [Hc4 HO Ha4]
  · isplitr; · iexact HR
    isplitr; · iexact HL
    isplitl [Hc4]; · iexact Hc4
    isplitl [HO]; · iexact HO
    iexact Ha4
  iintro ⟨HO, Ha4, Hb2⟩
  unfold sendXPay storePay
  icases Hb2 with ⟨Hbx, Hb2⟩
  ihave Hs := (join_sum c k _) $$ [Hb1 Hb2]
  · isplitl [Hb1]; · iexact Hb1
    iexact Hb2
  iapply Hk
  isplitl [HO]; · iexact HO
  isplitl [Hb]; · iexact Hb
  isplitl [Hbx]; · iexact Hbx
  isplitl [Ha1]; · iexact Ha1
  isplitl [Ha2]; · iexact Ha2
  isplitl [Ha3]; · iexact Ha3
  isplitl [Ha4]; · iexact Ha4
  isplitl [Ha5]; · iexact Ha5
  isplitl [Hl]; · iexact Hl
  iexact Hs

end Cert.KernelIdeal.Comm

end
-- ==== Proof.CommBody.lean ====
/-
  The whole communication kernel on device c: the barrier, the eight trips, the last waits, and the protocol's cells closed.
-/
module

public import proofs.«01_k».proof.Proof.CommTrip

@[expose] public section

noncomputable section

namespace Cert.KernelIdeal.Comm

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (q : Dev nD → main_v10.ty.Contents (Elt F))
variable (K : GSem nD τ sig → ℕ) (c : Dev nD) (Q : PUnit → sProp (MM F))

/-! ## The program over the neighbours -/

/-- The last m trips, then p. -/
def tripsLeft (d : Dev nD) : (m : ℕ) → Pr F → Pr F
  | 0, p => p
  | m + 1, p => chunk d ⟨7 - m, by omega⟩ (yn d) (yn d) (xn d) (xn d) (tripsLeft d m p)
def commRun (d : Dev nD) : Pr F := barrier (yn d) (xn d) (tripsLeft d 8 (last d 6 (last d 7 (.ret ⟨⟩))))

theorem commPrinted_eq : commPrinted (F := F) = .op .deviceId commRun := by
  unfold commPrinted
  congr 1
  funext d
  simp only [k1_dev1_eq, k1_dev2_eq, k1_dev3_eq, k1_dev4_eq, k1_dev5_eq, k1_dev6_eq, k1_dev7_eq, k1_dev8_eq, k1_dev9_eq, k1_dev10_eq,
    k1_dev11_eq, k1_dev12_eq, k1_dev13_eq, k1_dev14_eq, k1_dev15_eq, k1_dev16_eq, k1_dev17_eq, k1_dev18_eq, k1_dev19_eq, k1_dev20_eq,
    k1_dev21_eq, k1_dev22_eq, k1_dev23_eq, k1_dev24_eq, k1_dev25_eq, k1_dev26_eq, k1_dev27_eq, k1_dev28_eq, k1_dev29_eq, k1_dev30_eq]
  rfl

/-! ## The barrier -/

theorem barY_pay (k : Fin 8) : usePay q .bar (yn c) k true
    = bigSep Finset.univ fun s : Fin 2 => iprop((∃ f, vp c (landM s) fullShare f) ∗ reached ER (cell c (.dma (recvY s))) 0) := by
  show barPayY (yn c) = _
  unfold barPayY
  rw [yn_yn]
theorem barX_pay (k : Fin 8) : usePay q .bar (xn c) k false
    = iprop((bigSep Finset.univ fun k : Fin 8 => iprop(∃ f, vp c (outM (xn c) k) fullShare f))
      ∗ bigSep Finset.univ fun s : Fin 2 => reached ER (cell c (.dma (recvX s))) 0) := by
  show barPayX (xn c) = _
  unfold barPayX
  rw [xn_xn]

theorem barrier_wp (p : Pr F) :
    iprop(recs q K ∗ levAts L lv ∗ ow c (O₀ c) ∗ atPos ER (cell c (.reg barS)) 0 ∅ 0 ∗ cred (tallyAt (cell c (.reg barS)) 0 2)
        ∗ dutyTok ER (cell (yn c) (.reg barS)) 0 true ∗ dutyTok ER (cell (xn c) (.reg barS)) 0 false
        ∗ reached ER (cell (yn c) (.reg barS)) 0 ∗ reached ER (cell (xn c) (.reg barS)) 0
        ∗ (bigSep Finset.univ fun s : Fin 2 => iprop((∃ f, vp c (landM s) fullShare f) ∗ reached ER (cell c (.dma (recvY s))) 0))
        ∗ (bigSep Finset.univ fun k : Fin 8 => iprop(∃ f, vp c (outM (xn c) k) fullShare f))
        ∗ bigSep Finset.univ fun s : Fin 2 => reached ER (cell c (.dma (recvX s))) 0)
      ⊢ iprop((ow c (oweFrom c 0) ∗ atPos ER (cell c (.reg barS)) 1 ∅ 0 ∗ barPayY c ∗ barPayX c -∗ WP c p Q)
        -∗ WP c (barrier (yn c) (xn c) p) Q) := by
  unfold barrier O₀
  have hY := fun (kk : PUnit → Pr F) (O : CellTallies nD τ sig ℕ) => signal_step q K c Q (yn c) barS 0 0 true (by decide) (by show true ∈ (sched q).duties (cell (yn c) (.reg barS)) 0; rw [duties_bar]; decide) rfl O (k := kk)
  have hX := fun (kk : PUnit → Pr F) (O : CellTallies nD τ sig ℕ) => signal_step q K c Q (xn c) barS 0 0 false (by decide) (by show false ∈ (sched q).duties (cell (xn c) (.reg barS)) 0; rw [duties_bar]; decide) rfl O (k := kk)
  simp only [use_bar, barY_pay, barX_pay] at hY hX
  iintro ⟨#HR, #HL, HO, Ha, Hc, Ht1, Ht2, #Hr1, #Hr2, Hl, Hu, Hrx⟩ Hk
  iapply (hY _ _) $$ [HO Ht1 Hl]
  · isplitr; · iexact HR
    isplitl [HO]; · iexact HO
    isplitl [Ht1]; · iexact Ht1
    isplitl [Hl]; · iexact Hl
    iexact Hr1
  iintro HO
  iapply (hX _ _) $$ [HO Ht2 Hu Hrx]
  · isplitr; · iexact HR
    isplitl [HO]; · iexact HO
    isplitl [Ht2]; · iexact Ht2
    isplitl [Hu Hrx]
    · isplitl [Hu]; · iexact Hu
      iexact Hrx
    iexact Hr2
  unfold ow
  iintro ⟨%W, HO⟩
  iapply (Rounds.wp_wait_rest_token 𝒱₀ ER (sched q) (c : Thread nD τ) none (κ := K (cell c (.reg barS))) (wpE_semWait_eq 𝒱₀ (c : Thread nD τ) none Set.univ)
      (Set.mem_univ _) 0 (O := oweFrom c 0) (W := W) (R := 0) (m := 0) (T := ∅) ((Nat.zero_add 2).trans (expect_bar q c).symm)) $$ [Hc HO Ha]
  · isplitr; · iapply (inv_at q K c (.reg barS) (by decide)); iexact HR
    isplitl [Hc]; · iexact Hc
    isplitl [HO]; · iexact HO
    isplitr; · iapply (mayWait c (.reg barS) 0 (by decide) (oweFrom c 0) (above_from c 0 1 (by omega))); iexact HL
    iexact Ha
  iintro ⟨HO, Ha, -, Hpay⟩
  ihave Hp := (Entails.of_eq (rest_bar q c)) $$ Hpay
  icases Hp with ⟨Hp1, Hp2⟩
  iapply Hk
  isplitl [HO]; · iexists _; iexact HO
  isplitl [Ha]; · iexact Ha
  isplitl [Hp1]; · iexact Hp1
  iexact Hp2

/-! ## The trips -/

/-- The slot that trip n uses, before it: for n = 8, 9 after the slot's last trip. -/
def slotAt (n : ℕ) : sProp (MM F) :=
  if h : n < 2 then before c ⟨n, by omega⟩ else if h : n < 10 then after c ⟨n - 2, by omega⟩ else iprop(emp)
theorem slotAt_before (k : Fin 8) : (slotAt c k.val : sProp (MM F)) ⊢ before c k := by
  unfold slotAt
  by_cases h : k.val < 2
  · rw [dif_pos h]
  · rw [dif_neg h, dif_pos (by omega)]
    exact after_before c k (by omega)
theorem slotAt_after (k : Fin 8) : (after c k : sProp (MM F)) ⊢ slotAt c (k.val + 2) := by
  unfold slotAt
  rw [dif_neg (by omega), dif_pos (by omega)]
  exact .rfl

/-- The trips from n on. -/
abbrev from' (n : ℕ) : Finset (Fin 8) := Finset.univ.filter fun j : Fin 8 => n ≤ j.val

/-- Trip k first. -/
theorem from_cons (k : Fin 8) (Φ : Fin 8 → sProp (MM F)) : bigSep (from' k.val) Φ = iprop(Φ k ∗ bigSep (from' (k.val + 1)) Φ) := by
  rw [from', from_step]
  exact BI.bigSep_insert (not_mem_from k)

theorem trips_wp (m : ℕ) (hm : m ≤ 8) (p : Pr F) :
    iprop(recs q K ∗ levAts L lv ∗ ow c (oweFrom c (8 - m)) ∗ slotAt c (8 - m) ∗ slotAt c (8 - m + 1)
        ∗ bigSep (from' (8 - m)) fun k => iprop(toks c k ∗ creds c k ∗ rows q c k))
      ⊢ iprop((ow c 0 ∗ slotAt c 8 ∗ slotAt c 9 ∗ (bigSep (from' (8 - m)) fun k => tripDone q c k) -∗ WP c p Q)
        -∗ WP c (tripsLeft c m p) Q) := by
  induction m with
  | zero =>
    rw [show 8 - 0 = 8 from rfl, oweFrom_end, show from' 8 = ∅ from by decide, bigSep_empty, bigSep_empty]
    iintro ⟨-, -, HO, Hs1, Hs2, -⟩ Hk
    iapply Hk
    isplitl [HO]; · iexact HO
    isplitl [Hs1]; · iexact Hs1
    isplitl [Hs2]; · iexact Hs2
    iempintro
  | succ m ih =>
    have hk : 8 - (m + 1) = (⟨7 - m, by omega⟩ : Fin 8).val := by show _ = 7 - m; omega
    have hk' : 8 - m = (⟨7 - m, by omega⟩ : Fin 8).val + 1 := by show _ = 7 - m + 1; omega
    specialize ih (by omega)
    unfold tripsLeft
    rw [hk, from_cons, from_cons]
    rw [hk'] at ih
    generalize (⟨7 - m, by omega⟩ : Fin 8) = k at *
    iintro ⟨#HR, #HL, HO, Hs1, Hs2, ⟨⟨Ht, Hc, Hr⟩, Hrest⟩⟩ Hk
    iapply (chunk_wp q K c Q k _) $$ [HO Hs1 Ht Hc Hr]
    · isplitr; · iexact HR
      isplitr; · iexact HL
      isplitl [HO]; · iexact HO
      isplitl [Hs1]; · iapply (slotAt_before c k); iexact Hs1
      isplitl [Ht]; · iexact Ht
      isplitl [Hc]; · iexact Hc
      iexact Hr
    iintro ⟨HO, Hs1, Hd⟩
    iapply ih $$ [HO Hs1 Hs2 Hrest]
    · isplitr; · iexact HR
      isplitr; · iexact HL
      isplitl [HO]; · iexact HO
      isplitl [Hs2]; · iexact Hs2
      isplitl [Hs1]; · iapply (slotAt_after c k); iexact Hs1
      iexact Hrest
    iintro ⟨HO, Hs1, Hs2, Hds⟩
    iapply Hk
    isplitl [HO]; · iexact HO
    isplitl [Hs1]; · iexact Hs1
    isplitl [Hs2]; · iexact Hs2
    isplitl [Hd]; · iexact Hd
    iexact Hds

/-! ## A slot's cells -/

/-- Slot s's cells: the transfers' at round r, the leaves' at round r'. -/
abbrev cellsOf (s : Fin 2) (r r' : ℕ) : sProp (MM F) :=
  iprop(at' c (.reg (credY s)) r' ∗ at' c (.reg (credX s)) r' ∗ at' c (.dma (semQ s)) r ∗ at' c (.dma (sendY s)) r
    ∗ at' c (.dma (recvY s)) r ∗ at' c (.dma (sendX s)) r ∗ at' c (.dma (recvX s)) r ∗ at' c (.dma (store s)) r)

theorem start_slot (k : Fin 8) (hk : k.val < 2) :
    iprop(cellsOf c (slotOf k) 0 0 ∗ (∃ f, vp c (ownM (slotOf k)) fullShare f) ∗ (∃ f, vp c (sumM (slotOf k)) fullShare f)
        ∗ (∃ f, vp (yn c) (landM (slotOf k)) fullShare f) ∗ reached ER (cell (yn c) (.dma (recvY (slotOf k)))) 0 ∗ reached ER (cell (xn c) (.dma (recvX (slotOf k)))) 0)
      ⊢ (slotAt c k.val : sProp (MM F)) := by
  unfold slotAt
  rw [dif_pos hk]
  show _ ⊢ before c k
  unfold before base readyY readyX
  rw [if_neg (by omega), if_neg (by omega), show k.val / 2 = 0 by omega]
  iintro ⟨⟨H1, H2, H3, H4, H5, H6, H7, H8⟩, Ho, Hs, Hl, Hr1, Hr2⟩
  isplitl [Ho H3 H5 H7]
  · isplitl [Ho]; · iexact Ho
    isplitl [H3]; · iexact H3
    isplitl [H5]; · iexact H5
    iexact H7
  isplitl [H4 H1 Hl Hr1]
  · isplitl [H4]; · iexact H4
    isplitl [H1]; · iexact H1
    isplitl [Hl]; · iexact Hl
    iexact Hr1
  isplitl [H6]; · iexact H6
  isplitl [H8]; · iexact H8
  isplitl [H2]; · iexact H2
  isplitl [Hs]; · iexact Hs
  iexact Hr2

/-- The waits left for trip k, one of the last two, with the slot's cells brought to their ends. -/
theorem end_slot (k : Fin 8) (hk : 6 ≤ k.val) (p : Pr F) :
    iprop(recs q K ∗ levAts L lv ∗ ow c 0 ∗ slotAt c (k.val + 2))
      ⊢ iprop((ow c 0 ∗ backY q c k ∗ backX q c k ∗ cellsOf c (slotOf k) 4 3
          ∗ (∃ f, vp c (ownM (slotOf k)) fullShare f) ∗ (∃ f, vp c (landM (slotOf k)) fullShare f) ∗ (∃ f, vp c (sumM (slotOf k)) fullShare f) -∗ WP c p Q)
        -∗ WP c (last c k p) Q) := by
  have h3 : k.val / 2 = 3 := by have := k.isLt; omega
  have hl := last_wp q K c Q k (by omega) p
  rw [h3] at hl
  rw [show (slotAt c (k.val + 2) : sProp (MM F)) = after c k from by unfold slotAt; rw [dif_neg (by omega), dif_pos (by omega)]; rfl]
  unfold after base
  rw [h3]
  iintro ⟨#HR, #HL, HO, ⟨Ho, HaQ, HaRY, HaRX⟩, HY, HX⟩ Hk
  iapply hl $$ [HO HY HX]
  · isplitr; · iexact HR
    isplitr; · iexact HL
    isplitl [HO]; · iexact HO
    isplitl [HY]; · iexact HY
    iexact HX
  iintro ⟨HO, Hb1, Hb2, HaSY, HaCY, HaSX, HaST, HaCX, Hl, Hs⟩
  iapply Hk
  isplitl [HO]; · iexact HO
  isplitl [Hb1]; · iexact Hb1
  isplitl [Hb2]; · iexact Hb2
  isplitl [HaCY HaCX HaQ HaSY HaRY HaSX HaRX HaST]
  · isplitl [HaCY]; · iexact HaCY
    isplitl [HaCX]; · iexact HaCX
    isplitl [HaQ]; · iexact HaQ
    isplitl [HaSY]; · iexact HaSY
    isplitl [HaRY]; · iexact HaRY
    isplitl [HaSX]; · iexact HaSX
    isplitl [HaRX]; · iexact HaRX
    iexact HaST
  isplitl [Ho]; · iexact Ho
  isplitl [Hl]; · iexact Hl
  iexact Hs

/-! ## What the waits brought back, gathered -/

/-- The waits of trips 2, ..., 7 and the last two bring back every trip's. -/
theorem gather (B : Fin 8 → sProp (MM F)) :
    iprop((bigSep Finset.univ fun k : Fin 8 => if 2 ≤ k.val then B (prev k) else iprop(emp)) ∗ B 6 ∗ B 7) ⊢ bigSep Finset.univ B := by
  rw [bigSep_univ_eq_bigSepL [0, 1, 2, 3, 4, 5, 6, 7] (by decide) (by decide), bigSep_univ_eq_bigSepL [0, 1, 2, 3, 4, 5, 6, 7] (by decide) (by decide)]
  show iprop((emp ∗ emp ∗ B 0 ∗ B 1 ∗ B 2 ∗ B 3 ∗ B 4 ∗ B 5) ∗ B 6 ∗ B 7) ⊢ iprop(B 0 ∗ B 1 ∗ B 2 ∗ B 3 ∗ B 4 ∗ B 5 ∗ B 6 ∗ B 7)
  iintro ⟨⟨-, -, H0, H1, H2, H3, H4, H5⟩, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Everything that comes back, trip by trip: the block of the half product, and two blocks of the result. -/
def finished : sProp (MM F) :=
  bigSep Finset.univ fun k : Fin 8 => iprop(vp c (qM k) fullShare (q c) ∗ vp c (outM c k) fullShare (outv q c) ∗ vp c (outM (xn c) k) fullShare (outv q c))

theorem finished_of : iprop((bigSep Finset.univ fun k => tripDone q c k) ∗ (backY q c 6 ∗ backY q c 7) ∗ (backX q c 6 ∗ backX q c 7)) ⊢ finished q c := by
  unfold tripDone doneNow finished
  rw [bigSep_sep', bigSep_sep', bigSep_sep', bigSep_sep', bigSep_sep']
  iintro ⟨⟨⟨Hr, Hin⟩, HY, HX⟩, HY', HX'⟩
  ihave HY := (gather (backY q c)) $$ [HY HY']
  · isplitl [HY]; · iexact HY
    iexact HY'
  ihave HX := (gather (backX q c)) $$ [HX HX']
  · isplitl [HX]; · iexact HX
    iexact HX'
  isplitl [HY Hr]
  · iapply (show iprop((bigSep Finset.univ fun k : Fin 8 => backY q c k) ∗ bigSep Finset.univ fun k : Fin 8 => vp c (qM k) fullShare.right (q c))
        ⊢ (bigSep Finset.univ fun k : Fin 8 => vp c (qM k) fullShare (q c) : sProp (MM F)) from
      (Entails.of_eq (bigSep_sep' _ _ _).symm).trans (BI.bigSep_mono fun k _ => (vp_halves c (qM k) (q c)).2))
    isplitl [HY]; · iexact HY
    iexact Hr
  isplitl [HX]; · iexact HX
  iexact Hin

/-! ## The whole run -/

/-- What the body takes besides the records: the barrier's cell, the tokens and credits, the slots' cells and the buffers. -/
def commPre : sProp (MM F) :=
  iprop(ow c (O₀ c) ∗ (atPos ER (cell c (.reg barS)) 0 ∅ 0 ∗ cred (tallyAt (cell c (.reg barS)) 0 2)
      ∗ dutyTok ER (cell (yn c) (.reg barS)) 0 true ∗ dutyTok ER (cell (xn c) (.reg barS)) 0 false
      ∗ reached ER (cell (yn c) (.reg barS)) 0 ∗ reached ER (cell (xn c) (.reg barS)) 0)
    ∗ (bigSep Finset.univ fun s : Fin 2 => cellsOf c s 0 0)
    ∗ (bigSep Finset.univ fun k : Fin 8 => toks c k) ∗ (bigSep Finset.univ fun k : Fin 8 => creds c k)
    ∗ (bigSep Finset.univ fun s : Fin 2 => iprop((∃ f, vp c (ownM s) fullShare f) ∗ (∃ f, vp c (landM s) fullShare f) ∗ (∃ f, vp c (sumM s) fullShare f)))
    ∗ bigSep Finset.univ fun k : Fin 8 => iprop(vp c (qM k) fullShare (q c) ∗ (∃ f, vp c (outM c k) fullShare f) ∗ (∃ f, vp c (outM (xn c) k) fullShare f)))

/-- What it gives back, the cells at their ends. -/
def commEnd : sProp (MM F) :=
  iprop(ow c 0 ∗ atPos ER (cell c (.reg barS)) 1 ∅ 0 ∗ (bigSep Finset.univ fun s : Fin 2 => cellsOf c s 4 3)
    ∗ (bigSep Finset.univ fun s : Fin 2 => iprop((∃ f, vp c (ownM s) fullShare f) ∗ (∃ f, vp c (landM s) fullShare f) ∗ (∃ f, vp c (sumM s) fullShare f)))
    ∗ finished q c)

theorem comm_wp : iprop(recs q K ∗ levAts L lv ∗ commPre q c) ⊢ iprop((commEnd q c -∗ WP c (.ret ⟨⟩) Q) -∗ WP c (commRun c) Q) := by
  unfold commRun commPre commEnd
  rw [bigSep_univ_two, bigSep_univ_two, bigSep_univ_two, bigSep_sep', bigSep_sep']
  iintro ⟨#HR, #HL, HO, ⟨Ha, Hc, Ht1, Ht2, #Hr1, #Hr2⟩, ⟨Hc0, Hc1⟩, Ht, Hcr, ⟨⟨Ho0, Hl0, Hs0⟩, ⟨Ho1, Hl1, Hs1⟩⟩, Hq, Hu, Hv⟩ Hk
  icases Hc0 with ⟨A1, A2, A3, A4, ⟨A5, #R5⟩, A6, ⟨A7, #R7⟩, A8⟩
  icases Hc1 with ⟨B1, B2, B3, B4, ⟨B5, #S5⟩, B6, ⟨B7, #S7⟩, B8⟩
  iapply (barrier_wp q K c Q _) $$ [HO Ha Hc Ht1 Ht2 Hl0 Hl1 Hv]
  · rw [bigSep_univ_two, bigSep_univ_two]
    isplitr; · iexact HR
    isplitr; · iexact HL
    isplitl [HO]; · iexact HO
    isplitl [Ha]; · iexact Ha
    isplitl [Hc]; · iexact Hc
    isplitl [Ht1]; · iexact Ht1
    isplitl [Ht2]; · iexact Ht2
    isplitr; · iexact Hr1
    isplitr; · iexact Hr2
    isplitl [Hl0 Hl1]
    · isplitl [Hl0]
      · isplitl [Hl0]; · iexact Hl0
        iexact R5
      isplitl [Hl1]; · iexact Hl1
      iexact S5
    isplitl [Hv]; · iexact Hv
    isplitr; · iexact R7
    iexact S7
  unfold barPayY barPayX
  rw [bigSep_univ_two, bigSep_univ_two]
  iintro ⟨HO, Ha, ⟨⟨Hl0, Hry0⟩, ⟨Hl1, Hry1⟩⟩, Hx, Hrx0, Hrx1⟩
  iapply (trips_wp q K c Q 8 (le_refl _) _) $$ [HO A1 A2 A3 A4 A5 A6 A7 A8 B1 B2 B3 B4 B5 B6 B7 B8 Ho0 Hs0 Hl0 Hry0 Hrx0 Ho1 Hs1 Hl1 Hry1 Hrx1 Ht Hcr Hq Hu Hx]
  · isplitr; · iexact HR
    isplitr; · iexact HL
    isplitl [HO]; · iexact HO
    isplitl [A1 A2 A3 A4 A5 A6 A7 A8 Ho0 Hs0 Hl0 Hry0 Hrx0]
    · iapply (start_slot c 0 (by decide))
      isplitl [A1 A2 A3 A4 A5 A6 A7 A8]
      · isplitl [A1]; · iexact A1
        isplitl [A2]; · iexact A2
        isplitl [A3]; · iexact A3
        isplitl [A4]; · iexact A4
        isplitl [A5]
        · isplitl [A5]; · iexact A5
          iexact R5
        isplitl [A6]; · iexact A6
        isplitl [A7]
        · isplitl [A7]; · iexact A7
          iexact R7
        iexact A8
      isplitl [Ho0]; · iexact Ho0
      isplitl [Hs0]; · iexact Hs0
      isplitl [Hl0]; · iexact Hl0
      isplitl [Hry0]; · iexact Hry0
      iexact Hrx0
    isplitl [B1 B2 B3 B4 B5 B6 B7 B8 Ho1 Hs1 Hl1 Hry1 Hrx1]
    · iapply (start_slot c 1 (by decide))
      isplitl [B1 B2 B3 B4 B5 B6 B7 B8]
      · isplitl [B1]; · iexact B1
        isplitl [B2]; · iexact B2
        isplitl [B3]; · iexact B3
        isplitl [B4]; · iexact B4
        isplitl [B5]
        · isplitl [B5]; · iexact B5
          iexact S5
        isplitl [B6]; · iexact B6
        isplitl [B7]
        · isplitl [B7]; · iexact B7
          iexact S7
        iexact B8
      isplitl [Ho1]; · iexact Ho1
      isplitl [Hs1]; · iexact Hs1
      isplitl [Hl1]; · iexact Hl1
      isplitl [Hry1]; · iexact Hry1
      iexact Hrx1
    rw [show from' (8 - 8) = Finset.univ from by decide, bigSep_sep', bigSep_sep']
    isplitl [Ht]; · iexact Ht
    isplitl [Hcr]; · iexact Hcr
    unfold rows
    rw [bigSep_sep', bigSep_sep', bigSep_sep']
    ihave Hq := (show (bigSep Finset.univ fun k : Fin 8 => vp c (qM k) fullShare (q c) : sProp (MM F))
        ⊢ iprop((bigSep Finset.univ fun k : Fin 8 => vp c (qM k) fullShare.left (q c)) ∗ bigSep Finset.univ fun k : Fin 8 => vp c (qM k) fullShare.right (q c)) from
      (BI.bigSep_mono fun k _ => (vp_halves c (qM k) (q c)).1).trans (Entails.of_eq (bigSep_sep' _ _ _))) $$ Hq
    icases Hq with ⟨Hq1, Hq2⟩
    isplitl [Hq1]; · iexact Hq1
    isplitl [Hq2]; · iexact Hq2
    isplitl [Hu]; · iexact Hu
    iexact Hx
  rw [show from' (8 - 8) = Finset.univ from by decide]
  iintro ⟨HO, H8, H9, Hd⟩
  iapply (end_slot q K c Q 6 (by decide) _) $$ [HO H8]
  · isplitr; · iexact HR
    isplitr; · iexact HL
    isplitl [HO]; · iexact HO
    iexact H8
  iintro ⟨HO, HbY, HbX, Hc0, Ho0, Hl0, Hs0⟩
  iapply (end_slot q K c Q 7 (by decide) _) $$ [HO H9]
  · isplitr; · iexact HR
    isplitr; · iexact HL
    isplitl [HO]; · iexact HO
    iexact H9
  iintro ⟨HO, HbY', HbX', Hc1, Ho1, Hl1, Hs1⟩
  iapply Hk
  isplitl [HO]; · iexact HO
  isplitl [Ha]; · iexact Ha
  isplitl [Hc0 Hc1]
  · isplitl [Hc0]; · iexact Hc0
    iexact Hc1
  isplitl [Ho0 Hl0 Hs0 Ho1 Hl1 Hs1]
  · isplitl [Ho0 Hl0 Hs0]
    · isplitl [Ho0]; · iexact Ho0
      isplitl [Hl0]; · iexact Hl0
      iexact Hs0
    isplitl [Ho1]; · iexact Ho1
    isplitl [Hl1]; · iexact Hl1
    iexact Hs1
  iapply (finished_of q c)
  isplitl [Hd]; · iexact Hd
  isplitl [HbY HbY']
  · isplitl [HbY]; · iexact HbY
    iexact HbY'
  isplitl [HbX]; · iexact HbX
  iexact HbX'

end Cert.KernelIdeal.Comm

end
-- ==== Proof.CommBuffers.lean ====
/-
  The communication kernel's buffers cut into the blocks its trips work on, and put together again: the half product into
  eight blocks of 256 rows, the result into the eight blocks the device computes and the eight it receives, and a scratch
  buffer into its two slots.
-/
module

public import proofs.«01_k».proof.Proof.CommBody

@[expose] public section

noncomputable section

namespace Cert.KernelIdeal.Comm

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Cutting a whole buffer -/

/-- A whole buffer is its parts, for sets that cover it and do not meet. -/
theorem cut {ℓ : Loc nD τ sig} {T : Type} [Fintype T] (K : T → Finset (Idx ℓ)) (hd : ∀ t t', t ≠ t' → Disjoint (K t) (K t'))
    (hc : ∀ i, ∃ t, i ∈ K t) (f : Buf (Elt F) ℓ) :
    (ℓ ↦{fullShare} f : sProp (MM F)) = bigSep Finset.univ fun t => ℓ ↦[K t]{fullShare} f := by
  rw [← pointsTo_biUnion Finset.univ K fun t _ t' _ h => hd t t' h]
  rw [show Finset.univ.biUnion K = Finset.univ from Finset.eq_univ_iff_forall.mpr fun i => by
    obtain ⟨t, h⟩ := hc i
    exact Finset.mem_biUnion.mpr ⟨t, Finset.mem_univ _, h⟩]

/-- Its parts at any contents are the whole buffer at some contents. -/
theorem paste {ℓ : Loc nD τ sig} {T : Type} [Fintype T] (K : T → Finset (Idx ℓ)) (hd : ∀ t t', t ≠ t' → Disjoint (K t) (K t'))
    (hc : ∀ i, ∃ t, i ∈ K t) (fs : T → Buf (Elt F) ℓ) (f₀ : Buf (Elt F) ℓ) :
    (bigSep Finset.univ fun t => ℓ ↦[K t]{fullShare} fs t : sProp (MM F)) ⊢ iprop(∃ g, ℓ ↦{fullShare} g) := by
  refine (pointsTo_biUnion_join Finset.univ K fs f₀ fun t _ t' _ h => hd t t' h).trans ?_
  rw [show Finset.univ.biUnion K = Finset.univ from Finset.eq_univ_iff_forall.mpr fun i => by
    obtain ⟨t, h⟩ := hc i
    exact Finset.mem_biUnion.mpr ⟨t, Finset.mem_univ _, h⟩]
  iintro ⟨%g, -, H⟩
  iexists g
  iexact H

/-! ## The blocks' elements -/

theorem mem_q (k : Fin 8) (i : S2048x4096.Idx) : i ∈ (qM k).view.set ↔ (i 0).val / 256 = k.val := by
  rw [show (qM k).view.set = (Rect.unit (s := S2048x4096) ![256 * k.val, 0] S256x4096.size (q_inb k)).set from View.set_slice_whole _ _, Rect.mem_set_unit]
  have h1 : (i 1).val < 4096 := (i 1).isLt
  constructor
  · intro h
    have h0 : 256 * k.val ≤ (i 0).val ∧ (i 0).val < 256 * k.val + 256 := h 0
    omega
  · intro h a
    match a with
    | 0 => show 256 * k.val ≤ (i 0).val ∧ (i 0).val < 256 * k.val + 256; omega
    | 1 => show 0 ≤ (i 1).val ∧ (i 1).val < 0 + 4096; omega

theorem mem_out (d : Dev nD) (k : Fin 8) (i : S4096x4096.Idx) : i ∈ (outM d k).view.set ↔ (i 0).val / 256 = 8 * (d.val / 2) + k.val := by
  rw [show (outM d k).view.set = (Rect.unit (s := S4096x4096) (k1_off1 d (BitVec.ofNat 32 (256 * k.val))) S256x4096.size (k1_off1_inb d k)).set
      from View.set_slice_whole _ _, Rect.mem_set_unit, outM_set_off]
  have h1 : (i 1).val < 4096 := (i 1).isLt
  constructor
  · intro h
    have h0 : 2048 * (d.val / 2) + 256 * k.val ≤ (i 0).val ∧ (i 0).val < 2048 * (d.val / 2) + 256 * k.val + 256 := h 0
    omega
  · intro h a
    match a with
    | 0 => show 2048 * (d.val / 2) + 256 * k.val ≤ (i 0).val ∧ (i 0).val < 2048 * (d.val / 2) + 256 * k.val + 256; omega
    | 1 => show 0 ≤ (i 1).val ∧ (i 1).val < 0 + 4096; omega

theorem mem_slotR (s : Fin 2) (i : S2x256x4096.Idx) : i ∈ (slotR s).set ↔ (i 0).val = s.val := by
  rw [Rect.mem_set_unit]
  have h1 : (i 1).val < 256 := (i 1).isLt
  have h2 : (i 2).val < 4096 := (i 2).isLt
  constructor
  · intro h
    have h0 : s.val ≤ (i 0).val ∧ (i 0).val < s.val + 1 := h 0
    omega
  · intro h a
    match a with
    | 0 => show s.val ≤ (i 0).val ∧ (i 0).val < s.val + 1; omega
    | 1 => show 0 ≤ (i 1).val ∧ (i 1).val < 0 + 256; omega
    | 2 => show 0 ≤ (i 2).val ∧ (i 2).val < 0 + 4096; omega

/-! ## The half product -/

/-- A block of the half product. -/
def qSet (c : Dev nD) (k : Fin 8) : Finset (Idx ((c : Thread nD τ).loc main_v10)) := (qM k).view.set
theorem mem_qSet (c : Dev nD) (k : Fin 8) (i : S2048x4096.Idx) : i ∈ qSet c k ↔ (i 0).val / 256 = k.val := mem_q k i

theorem q_blocks (c : Dev nD) (f : main_v10.ty.Contents (Elt F)) :
    (((c : Thread nD τ).loc main_v10) ↦{fullShare} f : sProp (MM F)) = bigSep Finset.univ fun k : Fin 8 => vp c (qM k) fullShare f := by
  rw [cut (ℓ := (c : Thread nD τ).loc main_v10) (qSet c)
    (fun k k' h => Finset.disjoint_left.mpr fun i h1 h2 => h (Fin.ext (((mem_qSet c k i).mp h1).symm.trans ((mem_qSet c k' i).mp h2))))
    (fun (i : S2048x4096.Idx) => ⟨⟨(i 0).val / 256, by have : (i 0).val < 2048 := (i 0).isLt; omega⟩, (mem_qSet c _ i).mpr rfl⟩) f]
  rfl

/-! ## The result -/

/-- A block of the result: one the device computes, or one it receives. -/
def outSet (c : Dev nD) (x : Fin 2 × Fin 8) : Finset (Idx ((c : Thread nD τ).loc main_v11)) :=
  if x.1 = 0 then (outM c x.2).view.set else (outM (xn c) x.2).view.set

theorem out_blocks (c : Dev nD) (f : main_v11.ty.Contents (Elt F)) :
    (((c : Thread nD τ).loc main_v11) ↦{fullShare} f : sProp (MM F))
      = iprop((bigSep Finset.univ fun k : Fin 8 => vp c (outM c k) fullShare f) ∗ bigSep Finset.univ fun k : Fin 8 => vp c (outM (xn c) k) fullShare f) := by
  have hx : (xn c).val / 2 = 1 - c.val / 2 := by revert c; decide
  have hc : c.val / 2 < 2 := by have h := c.isLt; have e : nD = 4 := rfl; omega
  have hm (x : Fin 2 × Fin 8) (i : S4096x4096.Idx) : i ∈ outSet c x ↔ (i 0).val / 256 = 8 * ((c.val / 2 + x.1.val) % 2) + x.2.val := by
    unfold outSet
    split
    · next h => rw [mem_out, h]; show _ = _ ↔ _ = 8 * ((c.val / 2 + 0) % 2) + _; rw [show (c.val / 2 + 0) % 2 = c.val / 2 by omega]
    · next h =>
      have h1 : x.1.val = 1 := by have := x.1.isLt; have : x.1.val ≠ 0 := fun e => h (Fin.ext e); omega
      rw [mem_out, hx, h1, show (c.val / 2 + 1) % 2 = 1 - c.val / 2 by omega]
  rw [cut (ℓ := (c : Thread nD τ).loc main_v11) (outSet c)
    (fun x x' h => Finset.disjoint_left.mpr fun i h1 h2 => h (by
      have e1 := (hm x i).mp h1
      have e2 := (hm x' i).mp h2
      have := x.1.isLt; have := x.2.isLt; have := x'.1.isLt; have := x'.2.isLt
      exact Prod.ext (Fin.ext (by omega)) (Fin.ext (by omega))))
    (fun (i : S4096x4096.Idx) => by
      have hi : (i 0).val < 4096 := (i 0).isLt
      exact ⟨(⟨(c.val / 2 + (i 0).val / 2048) % 2, Nat.mod_lt _ (by decide)⟩, ⟨(i 0).val / 256 % 8, Nat.mod_lt _ (by decide)⟩), (hm _ i).mpr (by dsimp only; omega)⟩) f,
    bigSep_univ_prod, bigSep_univ_two]
  rfl

/-! ## The scratch buffers -/

theorem mem_own (s : Fin 2) (i : S2x256x4096.Idx) : i ∈ (ownM s).view.set ↔ (i 0).val = s.val := by
  rw [show (ownM s).view.set = (slotR s).set from (View.set_reshape _ _).trans (View.set_slice_whole _ _)]; exact mem_slotR s i
theorem mem_land (s : Fin 2) (i : S2x256x4096.Idx) : i ∈ (landM s).view.set ↔ (i 0).val = s.val := by
  rw [show (landM s).view.set = (slotR s).set from (View.set_reshape _ _).trans (View.set_slice_whole _ _)]; exact mem_slotR s i
theorem mem_sum (s : Fin 2) (i : S2x256x4096.Idx) : i ∈ (sumM s).view.set ↔ (i 0).val = s.val := by
  rw [show (sumM s).view.set = (slotR s).set from (View.set_reshape _ _).trans (View.set_slice_whole _ _)]; exact mem_slotR s i

/-- A scratch buffer of some contents in its two slots, and back. -/
theorem slots_cut {ℓ : Loc nD τ sig} (K : Fin 2 → Finset (Idx ℓ)) (i0 : Idx ℓ → ℕ) (hi : ∀ i, i0 i < 2) (h : ∀ s i, i ∈ K s ↔ i0 i = s.val) :
    (iprop(∃ f : Buf (Elt F) ℓ, ℓ ↦{fullShare} f) : sProp (MM F)) ⊢ bigSep Finset.univ fun s : Fin 2 => iprop(∃ f : Buf (Elt F) ℓ, ℓ ↦[K s]{fullShare} f) := by
  iintro ⟨%f, H⟩
  ihave H := (Entails.of_eq ((cut K (fun s s' hs => Finset.disjoint_left.mpr fun i h1 h2 => hs (Fin.ext (((h s i).mp h1).symm.trans ((h s' i).mp h2))))
    (fun i => ⟨⟨i0 i, hi i⟩, (h _ i).mpr rfl⟩) f).trans (bigSep_univ_two _))) $$ H
  icases H with ⟨H0, H1⟩
  rw [bigSep_univ_two]
  isplitl [H0]
  · iexists f; iexact H0
  · iexists f; iexact H1
theorem slots_paste {ℓ : Loc nD τ sig} (K : Fin 2 → Finset (Idx ℓ)) (i0 : Idx ℓ → ℕ) (hi : ∀ i, i0 i < 2) (h : ∀ s i, i ∈ K s ↔ i0 i = s.val) :
    (bigSep Finset.univ fun s : Fin 2 => iprop(∃ f : Buf (Elt F) ℓ, ℓ ↦[K s]{fullShare} f)) ⊢ (iprop(∃ f : Buf (Elt F) ℓ, ℓ ↦{fullShare} f) : sProp (MM F)) := by
  rw [bigSep_univ_two]
  iintro ⟨⟨%f, H0⟩, %g, H1⟩
  iapply (paste K (fun s s' hs => Finset.disjoint_left.mpr fun i h1 h2 => hs (Fin.ext (((h s i).mp h1).symm.trans ((h s' i).mp h2))))
    (fun i => ⟨⟨i0 i, hi i⟩, (h _ i).mpr rfl⟩) (fun s => if s = 0 then f else g) f)
  rw [bigSep_univ_two]
  isplitl [H0]
  · iexact H0
  · iexact H1

/-- The three scratch buffers. -/
def scratch (c : Dev nD) : sProp (MM F) :=
  iprop((∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f)
    ∗ (∃ f : Buf (Elt F) ((c : Thread nD τ).loc cc1_scratch2), ((c : Thread nD τ).loc cc1_scratch2) ↦{fullShare} f))
/-- Their slots. -/
def slots (c : Dev nD) : sProp (MM F) :=
  bigSep Finset.univ fun s : Fin 2 => iprop((∃ f, vp c (ownM s) fullShare f) ∗ (∃ f, vp c (landM s) fullShare f) ∗ (∃ f, vp c (sumM s) fullShare f))

/-- The elements of a slot of each of the three. -/
def ownSet (c : Dev nD) (s : Fin 2) : Finset (Idx ((c : Thread nD τ).loc cc1_scratch0)) := (ownM s).view.set
def landSet (c : Dev nD) (s : Fin 2) : Finset (Idx ((c : Thread nD τ).loc cc1_scratch1)) := (landM s).view.set
def sumSet (c : Dev nD) (s : Fin 2) : Finset (Idx ((c : Thread nD τ).loc cc1_scratch2)) := (sumM s).view.set
def laneOf (i : S2x256x4096.Idx) : ℕ := (i 0).val
theorem lane_lt (i : S2x256x4096.Idx) : laneOf i < 2 := (i 0).isLt
theorem mem_ownSet (c : Dev nD) (s : Fin 2) (i : S2x256x4096.Idx) : i ∈ ownSet c s ↔ laneOf i = s.val := mem_own s i
theorem mem_landSet (c : Dev nD) (s : Fin 2) (i : S2x256x4096.Idx) : i ∈ landSet c s ↔ laneOf i = s.val := mem_land s i
theorem mem_sumSet (c : Dev nD) (s : Fin 2) (i : S2x256x4096.Idx) : i ∈ sumSet c s ↔ laneOf i = s.val := mem_sum s i

/-- Their slots, buffer by buffer. -/
theorem slots_eq (c : Dev nD) : (slots c : sProp (MM F))
    = iprop((bigSep Finset.univ fun s : Fin 2 => iprop(∃ f : Buf (Elt F) ((c : Thread nD τ).loc cc1_scratch0), ((c : Thread nD τ).loc cc1_scratch0) ↦[ownSet c s]{fullShare} f))
      ∗ (bigSep Finset.univ fun s : Fin 2 => iprop(∃ f : Buf (Elt F) ((c : Thread nD τ).loc cc1_scratch1), ((c : Thread nD τ).loc cc1_scratch1) ↦[landSet c s]{fullShare} f))
      ∗ bigSep Finset.univ fun s : Fin 2 => iprop(∃ f : Buf (Elt F) ((c : Thread nD τ).loc cc1_scratch2), ((c : Thread nD τ).loc cc1_scratch2) ↦[sumSet c s]{fullShare} f)) := by
  unfold slots
  rw [bigSep_sep', bigSep_sep']
  rfl

theorem scratch_slots (c : Dev nD) : (scratch c : sProp (MM F)) ⊢ slots c := by
  rw [slots_eq]
  unfold scratch
  iintro ⟨H0, H1, H2⟩
  isplitl [H0]; · iapply (slots_cut (ownSet c) laneOf lane_lt (mem_ownSet c)); iexact H0
  isplitl [H1]; · iapply (slots_cut (landSet c) laneOf lane_lt (mem_landSet c)); iexact H1
  iapply (slots_cut (sumSet c) laneOf lane_lt (mem_sumSet c)); iexact H2
theorem slots_scratch (c : Dev nD) : (slots c : sProp (MM F)) ⊢ scratch c := by
  rw [slots_eq]
  unfold scratch
  iintro ⟨H0, H1, H2⟩
  isplitl [H0]; · iapply (slots_paste (ownSet c) laneOf lane_lt (mem_ownSet c)); iexact H0
  isplitl [H1]; · iapply (slots_paste (landSet c) laneOf lane_lt (mem_landSet c)); iexact H1
  iapply (slots_paste (sumSet c) laneOf lane_lt (mem_sumSet c)); iexact H2

end Cert.KernelIdeal.Comm

end
-- ==== Proof.CommCells.lean ====
/-
  The sixteen scoped semaphores of a device, listed by slot: their cells are opened when the communication kernel is
  entered, and closed, each back at zero, when it is done.
-/
module

public import proofs.«01_k».proof.Proof.CommBuffers

@[expose] public section

noncomputable section

namespace Cert.KernelIdeal.Comm

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (q : Dev nD → main_v10.ty.Contents (Elt F))

/-- The eight semaphores of a slot. -/
def semAt (s : Fin 2) (u : Fin 8) : SemLoc sig :=
  match u with
  | 0 => .reg (credY s) | 1 => .reg (credX s) | 2 => .dma (semQ s) | 3 => .dma (sendY s)
  | 4 => .dma (recvY s) | 5 => .dma (sendX s) | 6 => .dma (recvX s) | 7 => .dma (store s)
/-- The sixteen, by slot. -/
def bySlot : Fin 2 × Fin 8 ≃ Fin 16 where
  toFun x := ⟨2 * x.2.val + x.1.val, by have := x.1.isLt; have := x.2.isLt; omega⟩
  invFun j := (⟨j.val % 2, Nat.mod_lt _ (by decide)⟩, ⟨j.val / 2, by have := j.isLt; omega⟩)
  left_inv := by decide
  right_inv := by decide
theorem osem_bySlot : ∀ (s : Fin 2) (u : Fin 8), osem (bySlot (s, u)) = semAt s u := by decide

/-- Something said of each of the sixteen, said slot by slot. -/
theorem by_slot (Φ : SemLoc sig → sProp (MM F)) :
    (bigSep Finset.univ fun j : Fin 16 => Φ (osem j))
      = bigSep Finset.univ fun s : Fin 2 => iprop(Φ (.reg (credY s)) ∗ Φ (.reg (credX s)) ∗ Φ (.dma (semQ s)) ∗ Φ (.dma (sendY s))
          ∗ Φ (.dma (recvY s)) ∗ Φ (.dma (sendX s)) ∗ Φ (.dma (recvX s)) ∗ Φ (.dma (store s))) := by
  rw [bigSep_univ_equiv bySlot, bigSep_univ_prod]
  refine bigSep_congr fun s _ => ?_
  rw [bigSep_congr (Ψ := fun u => Φ (semAt s u)) fun u _ => by rw [osem_bySlot]]
  exact bigSep_univ_eq_bigSepL [(0 : Fin 8), 1, 2, 3, 4, 5, 6, 7] (by decide) (by decide) _

theorem use_osem : ∀ j : Fin 16, useOf (osem j) ≠ .other := by decide

/-- Entering: every cell at its first round. -/
theorem open_cells (K : GSem nD τ sig → ℕ) (c : Dev nD) :
    iprop(recs q K ∗ (bigSep Finset.univ fun j : Fin 16 => openTok ER (cell c (osem j))) ∗ bigSep Finset.univ fun j : Fin 16 => semVal (cell c (osem j)) 0)
      ⊢ |={Set.univ}=> bigSep Finset.univ fun s : Fin 2 => (cellsOf c s 0 0 : sProp (MM F)) := by
  have hone (j : Fin 16) (_ : j ∈ Finset.univ) : iprop(recs q K ∗ (openTok ER (cell c (osem j)) ∗ semVal (cell c (osem j)) 0))
      ⊢ |={Set.univ}=> (at' c (osem j) 0 : sProp (MM F)) := by
    iintro ⟨#HR, Ho, Hv⟩
    iapply (Rounds.cell_open ER (sched q) (g := cell c (osem j)) (Set.mem_univ (K (cell c (osem j)))))
    isplitr; · iapply (inv_at q K c (osem j) (use_osem j)); iexact HR
    isplitl [Ho]; · iexact Ho
    iexact Hv
  rw [← by_slot fun sm => at' c sm 0, ← bigSep_sep']
  exact (bigSep_with_persistent hone).trans (bigSep_fupd _ _)

/-- Leaving: every cell past its last round, and its semaphore at zero. -/
theorem close_cells (K : GSem nD τ sig → ℕ) (c : Dev nD) :
    iprop(recs q K ∗ bigSep Finset.univ fun s : Fin 2 => (cellsOf c s 4 3 : sProp (MM F)))
      ⊢ |={Set.univ}=> bigSep Finset.univ fun j : Fin 16 => semVal (cell c (osem j)) 0 := by
  have hone (j : Fin 16) (_ : j ∈ Finset.univ) : iprop(recs q K ∗ at' c (osem j) (roundsOf (useOf (osem j))))
      ⊢ |={Set.univ}=> (semVal (cell c (osem j)) 0 : sProp (MM F)) := by
    iintro ⟨#HR, Ha, -⟩
    iapply (Rounds.cell_close ER (sched q) (g := cell c (osem j)) (Set.mem_univ (K (cell c (osem j)))) id (duties_done q _ _ (le_refl _)))
    isplitr; · iapply (inv_at q K c (osem j) (use_osem j)); iexact HR
    iexact Ha
  have hs : (bigSep Finset.univ fun s : Fin 2 => (cellsOf c s 4 3 : sProp (MM F)))
      = bigSep Finset.univ fun j : Fin 16 => at' c (osem j) (roundsOf (useOf (osem j))) := by
    rw [by_slot fun sm => at' c sm (roundsOf (useOf sm))]
    refine bigSep_congr fun s _ => ?_
    simp only [use_crY, use_crX, use_q, use_sY, use_rY, use_sX, use_rX, use_st, roundsOf]
  rw [hs]
  exact (bigSep_with_persistent hone).trans (bigSep_fupd _ _)

/-- The barrier's cell likewise. -/
theorem close_bar (K : GSem nD τ sig → ℕ) (c : Dev nD) :
    iprop(recs q K ∗ atPos ER (cell c (.reg barS)) 1 ∅ 0) ⊢ |={Set.univ}=> (semVal (cell c (.reg barS)) 0 : sProp (MM F)) := by
  iintro ⟨#HR, Ha⟩
  iapply (Rounds.cell_close ER (sched q) (g := cell c (.reg barS)) (Set.mem_univ (K (cell c (.reg barS)))) id (duties_done q _ 1 (le_refl _)))
  isplitr; · iapply (inv_at q K c (.reg barS) (by decide)); iexact HR
  iexact Ha

end Cert.KernelIdeal.Comm

end
-- ==== Proof.CommRegion.lean ====
/-
  The communication kernel as one step of the program: what it is handed, its run, and what it hands back.
-/
module

public import proofs.«01_k».proof.Proof.CommCells

@[expose] public section

noncomputable section

namespace Cert.KernelIdeal.Comm

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation BodyObligationLoose)

variable {F : FTy → Type} [FloatOps F] (q : Dev nD → main_v10.ty.Contents (Elt F))

/-! ## The buffers -/

/-- The two arrays the kernel addresses. -/
def bufs : Finset (DevRef τ sig) := {Proc.devRef .tc main_v10, Proc.devRef .tc main_v11}

theorem bufs_eq (c : Dev nD) (W : Valuation τ sig (Elt F)) : (StableHlo.held (c : Thread nD τ) bufs W : sProp (MM F))
    = iprop((((c : Thread nD τ).loc main_v10) ↦{fullShare} (W main_v10 : main_v10.ty.Contents (Elt F)))
      ∗ (((c : Thread nD τ).loc main_v11) ↦{fullShare} (W main_v11 : main_v11.ty.Contents (Elt F)))) := by
  unfold StableHlo.held bufs
  rw [bigSep_eq_bigSepL_of_eq [Proc.devRef .tc main_v10, Proc.devRef .tc main_v11] (by decide) (by decide)]
  rfl

/-- The staging buffers of the first kernel, which lie idle. -/
def staging (c : Dev nD) : sProp (MM F) :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ ∃ f : Buf (Elt F) ((c : Thread nD τ).loc cc0_stg2_1), ((c : Thread nD τ).loc cc0_stg2_1) ↦{fullShare} f)

/-- The scoped buffers on entry: those and the kernel's own scratch. -/
abbrev scopedAll (c : Dev nD) : sProp (MM F) := Pipeline.scopedRest (Ix := ℕ) (Name := ℕ) (U := UU) (Lvl := ℕ) (Val := Elt F) cfg1.spec c
theorem scopedAll_split (c : Dev nD) : (scopedAll c : sProp (MM F)) ⊢ iprop(staging c ∗ scratch c) := by
  unfold staging scratch
  refine (Entails.of_eq (scopedRest1_eq c)).trans ?_
  iintro ⟨H0, H1, H2, H3, H4, H5, H6⟩
  isplitr [H6]
  · isplitl [H0]; · iexact H0
    isplitl [H1]; · iexact H1
    isplitl [H2]; · iexact H2
    isplitl [H3]; · iexact H3
    isplitl [H4]; · iexact H4
    iexact H5
  iexact H6
theorem scopedAll_join (c : Dev nD) : iprop(staging c ∗ scratch c) ⊢ (scopedAll c : sProp (MM F)) := by
  unfold staging scratch
  refine BIBase.Entails.trans ?_ (Entails.of_eq (scopedRest1_eq c).symm)
  iintro ⟨⟨H0, H1, H2, H3, H4, H5⟩, H6⟩
  isplitl [H0]; · iexact H0
  isplitl [H1]; · iexact H1
  isplitl [H2]; · iexact H2
  isplitl [H3]; · iexact H3
  isplitl [H4]; · iexact H4
  isplitl [H5]; · iexact H5
  iexact H6

/-! ## What the launch kept for the kernel -/

/-- The barrier: the device's own cell and credit, and its two neighbours' tokens. -/
abbrev barPart (c : Dev nD) : sProp (MM F) :=
  iprop(atPos ER (cell c (.reg barS)) 0 ∅ 0 ∗ cred (tallyAt (cell c (.reg barS)) 0 2)
    ∗ dutyTok ER (cell (yn c) (.reg barS)) 0 true ∗ dutyTok ER (cell (xn c) (.reg barS)) 0 false
    ∗ reached ER (cell (yn c) (.reg barS)) 0 ∗ reached ER (cell (xn c) (.reg barS)) 0)
/-- The tokens and credits of the trips. -/
abbrev tripPart (c : Dev nD) : sProp (MM F) :=
  iprop((bigSep Finset.univ fun k : Fin 8 => toks c k) ∗ bigSep Finset.univ fun k : Fin 8 => creds c k)
/-- What the launch kept, the scoped cells not yet open. -/
def kept (c : Dev nD) : sProp (MM F) :=
  iprop(∃ K, recs q K ∗ barPart c ∗ (bigSep Finset.univ fun j : Fin 16 => openTok ER (cell c (osem j))) ∗ tripPart c)
/-- The same, the cells open. -/
def opened (c : Dev nD) : sProp (MM F) :=
  iprop(∃ K, recs q K ∗ levAts L lv ∗ barPart c ∗ (bigSep Finset.univ fun s : Fin 2 => cellsOf c s 0 0) ∗ tripPart c)

theorem own_sems (c : Dev nD) : (Pipeline.ownSems0 osem c : sProp (MM F)) = bigSep Finset.univ fun j : Fin 16 => semVal (cell c (osem j)) 0 := rfl

theorem kept_open (c : Dev nD) : iprop(kept q c ∗ Pipeline.ownSems0 osem c ∗ levAts L lv) ⊢ |={Set.univ}=> opened q c := by
  unfold kept opened
  iintro ⟨⟨%K, #HR, HB, Ho, HT⟩, Hs, HL⟩
  imod (open_cells q K c) $$ [Ho Hs] with Hc
  · isplitr; · iexact HR
    isplitl [Ho]; · iexact Ho
    iapply (Entails.of_eq (own_sems c)); iexact Hs
  imodintro
  iexists K
  isplitr; · iexact HR
  isplitl [HL]; · iexact HL
  isplitl [HB]; · iexact HB
  isplitl [Hc]; · iexact Hc
  iexact HT

/-! ## The run -/

theorem vp_some {sp : Space} {s : Shape} {e : EltTy} (c : Dev nD) (M : Memref sig .tc sp s e) (f : Buf (Elt F) (M.view.loc (c : Thread nD τ))) :
    (vp c M fullShare f : sProp (MM F)) ⊢ iprop(∃ f, vp c M fullShare f) := by
  iintro H
  iexists f
  iexact H

theorem finished_split (c : Dev nD) : finished q c = iprop((bigSep Finset.univ fun k : Fin 8 => vp c (qM k) fullShare (q c))
    ∗ (bigSep Finset.univ fun k : Fin 8 => vp c (outM c k) fullShare (outv q c)) ∗ bigSep Finset.univ fun k : Fin 8 => vp c (outM (xn c) k) fullShare (outv q c)) := by
  unfold finished
  rw [bigSep_sep', bigSep_sep']

variable (V V' : Dev nD → Valuation τ sig (Elt F))

/-- Before and after the kernel. -/
def entry (c : Dev nD) : sProp (MM F) :=
  iprop(scopedAll c ∗ (∃ r, prngReg c r) ∗ StableHlo.held (c.tc : Thread nD τ) bufs (V c) ∗ opened q c)
def leaving (c : Dev nD) : sProp (MM F) :=
  iprop(scopedAll c ∗ (∃ r, prngReg c r) ∗ StableHlo.held (c.tc : Thread nD τ) bufs (V' c) ∗ Pipeline.ownSems0 osem c ∗ semVal (cell c (.reg barS)) 0)

theorem kernel_wp (c : Dev nD) (hq : V c main_v10 = q c) (hq' : V' c main_v10 = q c) (ho' : V' c main_v11 = outv q c) (Q : PUnit → sProp (MM F)) :
    iprop(entry q V c ∗ ow c (O₀ c)) ⊢ iprop((leaving V' c ∗ ow c 0 -∗ Q ⟨⟩) -∗ WP c commPrinted Q) := by
  unfold entry leaving opened
  rw [bufs_eq, bufs_eq, hq, hq', ho', commPrinted_eq]
  iintro ⟨⟨Hsc, Hp, ⟨Hq, Hv⟩, %K, #HR, #HL, HB, Hc, HT, HC⟩, HO⟩ Hk
  ihave Hsc := (scopedAll_split c) $$ Hsc
  icases Hsc with ⟨Hst, Hscr⟩
  ihave Hsl := (scratch_slots c) $$ Hscr
  ihave Hq := (Entails.of_eq (q_blocks c (q c))) $$ Hq
  ihave Hv := (Entails.of_eq (out_blocks c (V c main_v11))) $$ Hv
  icases Hv with ⟨Hv1, Hv2⟩
  iapply (Entails.of_eq (wp_deviceId 𝒱₀ (c : Thread nD τ) none (E := Set.univ)).symm)
  iapply (comm_wp q K c Q) $$ [HB Hc HT HC HO Hsl Hq Hv1 Hv2]
  · isplitr; · iexact HR
    isplitr; · iexact HL
    unfold commPre
    isplitl [HO]; · iexact HO
    isplitl [HB]; · iexact HB
    isplitl [Hc]; · iexact Hc
    isplitl [HT]; · iexact HT
    isplitl [HC]; · iexact HC
    isplitl [Hsl]; · unfold slots; iexact Hsl
    rw [bigSep_sep', bigSep_sep']
    isplitl [Hq]; · iexact Hq
    isplitl [Hv1]
    · iapply (show (bigSep Finset.univ fun k : Fin 8 => vp c (outM c k) fullShare (V c main_v11) : sProp (MM F))
          ⊢ bigSep Finset.univ fun k : Fin 8 => iprop(∃ f, vp c (outM c k) fullShare f) from
        BI.bigSep_mono fun k _ => vp_some _ _ _)
      iexact Hv1
    · iapply (show (bigSep Finset.univ fun k : Fin 8 => vp c (outM (xn c) k) fullShare (V c main_v11) : sProp (MM F))
          ⊢ bigSep Finset.univ fun k : Fin 8 => iprop(∃ f, vp c (outM (xn c) k) fullShare f) from
        BI.bigSep_mono fun k _ => vp_some _ _ _)
      iexact Hv2
  unfold commEnd
  rw [finished_split]
  iintro ⟨HO, Hb, Hc, Hsl, Hq, Hv1, Hv2⟩
  iapply (Entails.of_eq (wp_ret (Fr := Idealize.ShloMosaic.frame) _ _ _ _).symm)
  imod (close_bar q K c) $$ [Hb] with Hb
  · isplitr; · iexact HR
    iexact Hb
  imod (close_cells q K c) $$ [Hc] with Hc
  · isplitr; · iexact HR
    iexact Hc
  imodintro
  iapply Hk
  isplitr [HO]
  · isplitl [Hst Hsl]
    · iapply (scopedAll_join c)
      isplitl [Hst]; · iexact Hst
      iapply (slots_scratch c)
      unfold slots
      iexact Hsl
    isplitl [Hp]; · iexact Hp
    isplitl [Hq Hv1 Hv2]
    · isplitl [Hq]
      · iapply (Entails.of_eq (q_blocks c (q c)).symm); iexact Hq
      · iapply (Entails.of_eq (out_blocks c (outv q c)).symm)
        isplitl [Hv1]; · iexact Hv1
        iexact Hv2
    isplitl [Hc]; · iapply (Entails.of_eq (own_sems c).symm); iexact Hc
    iexact Hb
  iexact HO

/-! ## The data of the run -/

theorem fin_one (t : Fin cfg1.N) : t.val = 0 := by have h := t.isLt; have e : cfg1.N = 1 := N_1; omega

/-- One point: all that is owed is owed before it, and nothing after it. -/
def dat1 (c : Dev nD) : Dat τ (Elt F) ℕ ℕ UU ℕ cfg1 c where
  A w := w.elim0
  after w := w.elim0
  Φ t := if t.val = 0 then entry q V c else leaving V' c
  q w := w.elim0
  owed t := if t.val = 0 then O₀ c else 0

theorem phi_first (c : Dev nD) (t : Fin cfg1.N) : (dat1 q V V' c).Φ t.castSucc = entry q V c := if_pos (fin_one t)
theorem phi_last (c : Dev nD) (t : Fin cfg1.N) : (dat1 q V V' c).Φ t.succ = leaving V' c := by
  show (if t.val + 1 = 0 then entry q V c else leaving V' c) = _
  exact if_neg (Nat.succ_ne_zero _)
theorem owed_first (c : Dev nD) (t : Fin cfg1.N) : (dat1 q V V' c).owed t.castSucc = O₀ c := if_pos (fin_one t)
theorem owed_last (c : Dev nD) (t : Fin cfg1.N) : (dat1 q V V' c).owed t.succ = 0 := by
  show (if t.val + 1 = 0 then O₀ c else 0) = _
  exact if_neg (Nat.succ_ne_zero _)

/-- What is owed, by the data of a run and plainly. -/
theorem owes_in {cfg : Cfg sig Λ₀} {c : Dev nD} (dat : Dat τ (Elt F) ℕ ℕ UU ℕ cfg c) (t : Fin (cfg.N + 1)) (O : CellTallies nD τ sig ℕ)
    (h : dat.owed t = O) (hr : dat.recorded t = Set.univ) : (ow c O : sProp (MM F)) ⊢ dat.owesAt 0 t := by
  unfold ow Dat.owesAt Pipeline.owesWithin Dat.bound
  rw [h, hr]
  iintro ⟨%W, HO⟩
  iexists W
  isplitr
  · ipureintro; exact fun _ _ => Or.inl trivial
  iexact HO
theorem owes_out {cfg : Cfg sig Λ₀} {c : Dev nD} (dat : Dat τ (Elt F) ℕ ℕ UU ℕ cfg c) (t : Fin (cfg.N + 1)) (O : CellTallies nD τ sig ℕ)
    (h : dat.owed t = O) : dat.owesAt 0 t ⊢ (ow c O : sProp (MM F)) := by
  unfold ow Dat.owesAt Pipeline.owesWithin
  rw [h]
  iintro ⟨%W, -, HO⟩
  iexists W
  iexact HO

theorem no_windows {M : Type} [URA M] (Φ : Fin 0 → sProp M) : bigSep Finset.univ Φ = (BI.emp : sProp M) :=
  bigSep_univ_eq_bigSepL [] (by decide) (by decide) Φ

/-- Its one point runs. -/
theorem body1 (c : Dev nD) (hq : V c main_v10 = q c) (hq' : V' c main_v10 = q c) (ho' : V' c main_v11 = outv q c) :
    BodyObligation (dat1 q V V' c) (defs₀ (F := F)) 𝒱₀ 0 Set.univ := fun t => by
  rw [no_windows, no_windows, phi_first, phi_last]
  rw [show defs₀ (F := F) .tc cfg1.body (cfg1.bodyArgs t (cfg1.slots t)) = commPrinted from body_eq_trips t]
  iintro ⟨HΦ, HO, -⟩
  ihave HO := (owes_out (dat1 q V V' c) _ (O₀ c) (owed_first q V V' c t)) $$ HO
  iapply (kernel_wp q V V' c hq hq' ho' _) $$ [HΦ HO]
  · isplitl [HΦ]; · iexact HΦ
    iexact HO
  iintro ⟨HΦ, HO⟩
  isplitl [HΦ]; · iexact HΦ
  isplitl [HO]
  · iapply (owes_in (dat1 q V V' c) _ 0 (owed_last q V V' c t) rfl); iexact HO
  iempintro

end Cert.KernelIdeal.Comm

end
-- ==== Proof.CommLaunch.lean ====
/-
  What the launch deals: each device gets its barrier cell, the leave to open its sixteen scoped cells, the tokens of the
  duties it pays (at its own cells and at its neighbours'), and the credits for what its neighbours send it.
-/
module

public import proofs.«01_k».proof.Proof.CommRegion

@[expose] public section

noncomputable section

namespace Cert.KernelIdeal.Comm

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (q : Dev nD → main_v10.ty.Contents (Elt F))

/-! ## The tokens -/

/-- The tokens of a device's cells: the barrier's two, and one of each of a slot's eight semaphores for each trip. (The two
    leaves to send again have no sixth and seventh trip; those tokens lie idle.) -/
def tokAt (x : Bool ⊕ Fin 8 × Fin 8) : SemLoc sig × ℕ × Bool :=
  match x with
  | .inl b => (.reg barS, 0, b)
  | .inr (k, u) => (semAt (slotOf k) u, k.val / 2, true)
theorem sem_inj : Function.Injective fun x : Fin 2 × Fin 8 => semAt x.1 x.2 := fun x y h => by
  have h' : osem (bySlot x) = osem (bySlot y) := (osem_bySlot x.1 x.2).trans (h.trans (osem_bySlot y.1 y.2).symm)
  exact bySlot.injective (osem_inj h')
theorem trip_inj : ∀ k k' : Fin 8, slotOf k = slotOf k' → k.val / 2 = k'.val / 2 → k = k' := by decide
theorem semAt_ne_bar : ∀ (s : Fin 2) (u : Fin 8), semAt s u ≠ .reg barS := by decide
theorem tokAt_inj : Function.Injective tokAt := fun x y h => by
  rcases x with b | ⟨k, u⟩ <;> rcases y with b' | ⟨k', u'⟩
  · exact congrArg Sum.inl (congrArg (fun t => t.2.2) h)
  · exact absurd (congrArg Prod.fst h).symm (semAt_ne_bar _ _)
  · exact absurd (congrArg Prod.fst h) (semAt_ne_bar _ _)
  · have h1 := sem_inj (a₁ := (slotOf k, u)) (a₂ := (slotOf k', u')) (congrArg Prod.fst h)
    obtain rfl := trip_inj k k' (congrArg Prod.fst h1) (congrArg (fun t => t.2.1) h)
    obtain rfl : u = u' := congrArg Prod.snd h1
    rfl
def allToks : Finset (GSem nD τ sig × ℕ × Bool) :=
  Finset.univ.map ⟨fun x : Dev nD × (Bool ⊕ Fin 8 × Fin 8) => (cell x.1 (tokAt x.2).1, (tokAt x.2).2), fun _ _ h =>
    Prod.ext (congrArg (fun t : GSem nD τ sig × ℕ × Bool => t.1.1.1) h)
      (tokAt_inj (Prod.ext (congrArg (fun t : GSem nD τ sig × ℕ × Bool => t.1.2) h) (congrArg (fun t : GSem nD τ sig × ℕ × Bool => t.2) h)))⟩

/-- The token of trip k at a semaphore of its slot. -/
abbrev tk (c : Dev nD) (k u : Fin 8) : sProp (MM F) := dutyTok ER (cell c (semAt (slotOf k) u)) (k.val / 2) true
abbrev tkBar (c : Dev nD) (b : Bool) : sProp (MM F) := dutyTok ER (cell c (.reg barS)) 0 b

theorem toks_split : bigSep allToks (fun x => (dutyTok ER x.1 x.2.1 x.2.2 : sProp (MM F)))
    = bigSep Finset.univ fun c : Dev nD => iprop((tkBar c true ∗ tkBar c false)
        ∗ bigSep Finset.univ fun k : Fin 8 => iprop(tk c k 0 ∗ tk c k 1 ∗ tk c k 2 ∗ tk c k 3 ∗ tk c k 4 ∗ tk c k 5 ∗ tk c k 6 ∗ tk c k 7)) := by
  unfold allToks
  rw [bigSep_map, bigSep_univ_prod]
  refine bigSep_congr fun c _ => ?_
  rw [bigSep_univ_sum, bigSep_univ_prod]
  refine congrArg₂ (fun A B : sProp (MM F) => iprop(A ∗ B)) ?_ (bigSep_congr fun k _ => ?_)
  · exact bigSep_univ_eq_bigSepL [true, false] (by decide) (by decide) _
  · exact bigSep_univ_eq_bigSepL [(0 : Fin 8), 1, 2, 3, 4, 5, 6, 7] (by decide) (by decide) _

def ynE : Dev nD ≃ Dev nD := ⟨yn, yn, yn_yn, yn_yn⟩
def xnE : Dev nD ≃ Dev nD := ⟨xn, xn, xn_xn, xn_xn⟩

/-- The trips' tokens, each where it is paid from. -/
theorem trips_around :
    (bigSep Finset.univ fun c : Dev nD => bigSep Finset.univ fun k : Fin 8 =>
        (iprop(tk c k 0 ∗ tk c k 1 ∗ tk c k 2 ∗ tk c k 3 ∗ tk c k 4 ∗ tk c k 5 ∗ tk c k 6 ∗ tk c k 7) : sProp (MM F)))
      = bigSep Finset.univ fun c : Dev nD => bigSep Finset.univ fun k : Fin 8 =>
        iprop(tk (yn c) k 0 ∗ tk (xn c) k 1 ∗ tk c k 2 ∗ tk c k 3 ∗ tk (yn c) k 4 ∗ tk c k 5 ∗ tk (xn c) k 6 ∗ tk c k 7) := by
  simp only [bigSep_sep']
  rw [bigSep_univ_equiv ynE (fun c : Dev nD => bigSep Finset.univ fun k : Fin 8 => (tk c k 0 : sProp (MM F))),
    bigSep_univ_equiv xnE (fun c : Dev nD => bigSep Finset.univ fun k : Fin 8 => (tk c k 1 : sProp (MM F))),
    bigSep_univ_equiv ynE (fun c : Dev nD => bigSep Finset.univ fun k : Fin 8 => (tk c k 4 : sProp (MM F))),
    bigSep_univ_equiv xnE (fun c : Dev nD => bigSep Finset.univ fun k : Fin 8 => (tk c k 6 : sProp (MM F)))]
  rfl

/-- Something dropped when it isn't asked for. -/
theorem keep_if (p : Prop) [Decidable p] (X : sProp (MM F)) : X ⊢ if p then X else iprop(emp) := by
  split
  · exact .rfl
  · iintro -
    iempintro

theorem toks_intro (c : Dev nD) (k : Fin 8) :
    iprop(tk (yn c) k 0 ∗ tk (xn c) k 1 ∗ tk c k 2 ∗ tk c k 3 ∗ tk (yn c) k 4 ∗ tk c k 5 ∗ tk (xn c) k 6 ∗ tk c k 7) ⊢ (toks c k : sProp (MM F)) := by
  unfold toks
  iintro ⟨H0, H1, H2, H3, H4, H5, H6, H7⟩
  isplitl [H3]; · iexact H3
  isplitl [H4]; · iexact H4
  isplitl [H2]; · iexact H2
  isplitl [H5]; · iexact H5
  isplitl [H6]; · iexact H6
  isplitl [H7]; · iexact H7
  isplitl [H0]
  · iapply (keep_if (k.val ≤ 5) (tk (yn c) k 0)); iexact H0
  · iapply (keep_if (k.val ≤ 5) (tk (xn c) k 1)); iexact H1

/-- All the tokens, dealt. -/
theorem toks_dealt : bigSep allToks (fun x => (dutyTok ER x.1 x.2.1 x.2.2 : sProp (MM F)))
    ⊢ bigSep Finset.univ fun c : Dev nD => iprop((tkBar (yn c) true ∗ tkBar (xn c) false) ∗ bigSep Finset.univ fun k : Fin 8 => toks c k) := by
  have h1 : (bigSep Finset.univ fun c : Dev nD => (iprop(tkBar c true ∗ tkBar c false) : sProp (MM F)))
      = bigSep Finset.univ fun c : Dev nD => iprop(tkBar (yn c) true ∗ tkBar (xn c) false) := by
    rw [bigSep_sep', bigSep_sep', bigSep_univ_equiv ynE (fun c : Dev nD => (tkBar c true : sProp (MM F))),
      bigSep_univ_equiv xnE (fun c : Dev nD => (tkBar c false : sProp (MM F)))]
    rfl
  rw [toks_split, bigSep_sep', h1, trips_around, ← bigSep_sep']
  refine bigSep_mono fun c _ => (show iprop(_ ∗ _) ⊢ (iprop(_ ∗ _) : sProp (MM F)) from sep_mono_right ?_)
  exact bigSep_mono fun k _ => toks_intro c k

/-! ## The credits -/

theorem cred_y (sm : SemLoc sig) (i n : ℕ) (c : Dev nD) :
    (Pipeline.launchCred (fun d => tallyAt (cell (yn d) sm) i n) c : sProp (MM F)) ⊢ cred (tallyAt (cell c sm) i n) :=
  Pipeline.launchCred_tallyAt sm yn yn yn_yn yn_yn i n c
theorem cred_x (sm : SemLoc sig) (i n : ℕ) (c : Dev nD) :
    (Pipeline.launchCred (fun d => tallyAt (cell (xn d) sm) i n) c : sProp (MM F)) ⊢ cred (tallyAt (cell c sm) i n) :=
  Pipeline.launchCred_tallyAt sm xn xn xn_xn xn_xn i n c
/-- The same of a credit that is owed in some trips only. -/
theorem cred_if (p : Prop) [Decidable p] (D : Dev nD → CellTallies nD τ sig ℕ) (c : Dev nD) (X : sProp (MM F)) (h : Pipeline.launchCred D c ⊢ X) :
    (Pipeline.launchCred (fun d => if p then D d else 0) c : sProp (MM F)) ⊢ if p then X else iprop(emp) := by
  by_cases hp : p
  · simp only [if_pos hp]; exact h
  · simp only [if_neg hp]; exact Entails.of_eq (Pipeline.launchCred_zero c)

theorem cred_trip (k : Fin 8) (c : Dev nD) : (Pipeline.launchCred (fun d => oweTrip d k) c : sProp (MM F)) ⊢ creds c k := by
  unfold creds
  show (Pipeline.launchCred (fun d => oweRY d k + (oweCY d k + (oweRX d k + oweCX d k))) c : sProp (MM F)) ⊢ _
  rw [Pipeline.launchCred_add (fun d => oweRY d k), Pipeline.launchCred_add (fun d => oweCY d k), Pipeline.launchCred_add (fun d => oweRX d k)]
  iintro ⟨H1, H2, H3, H4⟩
  isplitl [H1]; · iapply (cred_y (.dma (recvY (slotOf k))) k.val N c); iexact H1
  isplitl [H3]; · iapply (cred_x (.dma (recvX (slotOf k))) k.val N c); iexact H3
  isplitl [H2]
  · iapply (cred_if (k.val ≤ 5) _ c _ (cred_y (.reg (credY (slotOf k))) k.val 1 c)); iexact H2
  · iapply (cred_if (k.val ≤ 5) _ c _ (cred_x (.reg (credX (slotOf k))) k.val 1 c)); iexact H4

theorem creds_dealt (c : Dev nD) : (Pipeline.launchCred O₀ c : sProp (MM F))
    ⊢ iprop(cred (tallyAt (cell c (.reg barS)) 0 2) ∗ bigSep Finset.univ fun k : Fin 8 => creds c k) := by
  show (Pipeline.launchCred (fun d => (oweFrom d 0 + tallyAt (cell (xn d) (.reg barS)) 0 1) + tallyAt (cell (yn d) (.reg barS)) 0 1) c : sProp (MM F)) ⊢ _
  rw [Pipeline.launchCred_add (fun d => oweFrom d 0 + tallyAt (cell (xn d) (.reg barS)) 0 1), Pipeline.launchCred_add (fun d => oweFrom d 0),
    show (fun d : Dev nD => oweFrom d 0) = fun d => ∑ k ∈ (Finset.univ : Finset (Fin 8)), oweTrip d k from rfl,
    Pipeline.launchCred_sum Finset.univ fun (k : Fin 8) d => oweTrip d k]
  have hk : (bigSep Finset.univ fun k : Fin 8 => (Pipeline.launchCred (fun d => oweTrip d k) c : sProp (MM F))) ⊢ bigSep Finset.univ fun k : Fin 8 => creds c k :=
    bigSep_mono fun k _ => cred_trip k c
  have h2 : iprop(cred (tallyAt (cell c (.reg barS)) 0 1) ∗ cred (tallyAt (cell c (.reg barS)) 0 1)) ⊢ (cred (tallyAt (cell c (.reg barS)) 0 2) : sProp (MM F)) := by
    rw [show (tallyAt (cell c (.reg barS)) 0 2 : CellTallies nD τ sig ℕ) = tallyAt (cell c (.reg barS)) 0 1 + tallyAt (cell c (.reg barS)) 0 1 from by rw [tallyAt_add]]
    exact (cred_add _ _).2
  iintro ⟨⟨HT, Hx⟩, Hy⟩
  isplitl [Hx Hy]
  · iapply h2
    isplitl [Hx]
    · iapply (cred_x (.reg barS) 0 1 c); iexact Hx
    · iapply (cred_y (.reg barS) 0 1 c); iexact Hy
  iapply hk
  iexact HT

/-! ## The launch -/

/-- Two things every device has, together. -/
theorem pair (Φ Ψ : Dev nD → sProp (MM F)) : iprop(bigSep Finset.univ Φ ∗ bigSep Finset.univ Ψ) ⊢ bigSep Finset.univ fun c => iprop(Φ c ∗ Ψ c) :=
  Entails.of_eq (bigSep_sep' _ _ _).symm

theorem disjoint_cells : Disjoint (barCells : Finset (GSem nD τ sig)) scCells := by
  rw [Finset.disjoint_left]
  rintro g h₁ h₂
  obtain ⟨c, -, rfl⟩ := Finset.mem_map.mp h₁
  obtain ⟨cj, -, h⟩ := Finset.mem_map.mp h₂
  exact osem_ne_bar cj.2 (congrArg Prod.snd h)

/-- Everything the protocol launches with, put down at device 0 until it is dealt. -/
def launchStock : sProp (MM F) := BI.own (ER (launchOf barCells scCells allToks))
def G (c : Dev nD) : sProp (MM F) := if c = 0 then launchStock else iprop(emp)
theorem G_all : bigSep Finset.univ G = (launchStock : sProp (MM F)) := by
  have h0 : bigSep (Finset.univ.erase (0 : Dev nD)) G = (BI.emp : sProp (MM F)) := by
    rw [bigSep_congr (Φ := G) (Ψ := fun _ => (BI.emp : sProp (MM F))) fun c hc => by unfold G; exact if_neg (Finset.ne_of_mem_erase hc)]
    exact BI.bigSep_emp_const _
  rw [bigSep_univ_at _ (0 : Dev nD), h0, show (G 0 : sProp (MM F)) = launchStock from if_pos rfl]
  exact BI.equiv_iff.mp sep_emp

theorem sems_at_launch (c : Dev nD) : (unscopedSems0 c : sProp (MM F)) = semVal (cell c (.reg barS)) 0 := by
  unfold unscopedSems0
  rw [show (Finset.univ.filter fun sm : SemLoc sig => ¬ sm.isScoped .tc) = {.reg barS} from by decide, BI.bigSep_singleton]

/-- What one device gets, but the records and the credits. -/
def dealt (c : Dev nD) : sProp (MM F) :=
  iprop(atPos ER (cell c (.reg barS)) 0 ∅ 0 ∗ (bigSep Finset.univ fun j : Fin 16 => openTok ER (cell c (osem j)))
    ∗ (tkBar (yn c) true ∗ tkBar (xn c) false) ∗ bigSep Finset.univ fun k : Fin 8 => toks c k)

/-- The records everyone may consult. -/
abbrev common (K : GSem nD τ sig → ℕ) : sProp (MM F) := iprop(recs q K ∗ bigSep barCells fun g => reached ER g 0)
theorem bar_reached (c : Dev nD) : (bigSep barCells fun g => (reached ER g 0 : sProp (MM F))) ⊢ reached ER (cell c (.reg barS)) 0 :=
  bigSep_elim (Finset.mem_map_of_mem barEmb (Finset.mem_univ c))

theorem kept_intro (K : GSem nD τ sig → ℕ) (c : Dev nD) :
    iprop(common q K ∗ (dealt c ∗ Pipeline.launchCred O₀ c)) ⊢ kept q c := by
  unfold dealt kept
  iintro ⟨⟨#HR, #Hb⟩, ⟨Ha, Ho, ⟨Ht1, Ht2⟩, HT⟩, HC⟩
  ihave HC := (creds_dealt c) $$ HC
  icases HC with ⟨Hc, HC⟩
  iexists K
  isplitr; · iexact HR
  isplitl [Ha Ht1 Ht2 Hc]
  · isplitl [Ha]; · iexact Ha
    isplitl [Hc]; · iexact Hc
    isplitl [Ht1]; · iexact Ht1
    isplitl [Ht2]; · iexact Ht2
    isplitr
    · iapply (bar_reached (F := F) (yn c)); iexact Hb
    · iapply (bar_reached (F := F) (xn c)); iexact Hb
  isplitl [Ho]; · iexact Ho
  isplitl [HT]; · iexact HT
  iexact HC

theorem stock_dealt :
    iprop((bigSep Finset.univ fun c : Dev nD => (unscopedSems0 c : sProp (MM F))) ∗ launchStock)
      ⊢ |={Set.univ}=> ∃ K, common q K ∗ bigSep Finset.univ fun c : Dev nD => dealt c := by
  have hv : bigSep Finset.univ (fun c : Dev nD => (unscopedSems0 c : sProp (MM F))) ⊢ bigSep barCells (fun g => (semVal g 0 : sProp (MM F))) := by
    rw [bigSep_congr (Ψ := fun c : Dev nD => (semVal (cell c (.reg barS)) 0 : sProp (MM F))) fun c _ => sems_at_launch c]
    exact Entails.of_eq (bigSep_map (s := Finset.univ) barEmb (Φ := fun g : GSem nD τ sig => (semVal g 0 : sProp (MM F)))).symm
  have hat : bigSep barCells (fun g => (atPos ER g 0 ∅ 0 : sProp (MM F))) ⊢ bigSep Finset.univ (fun c : Dev nD => (atPos ER (cell c (.reg barS)) 0 ∅ 0 : sProp (MM F))) :=
    Entails.of_eq (bigSep_map (s := Finset.univ) barEmb (Φ := fun g : GSem nD τ sig => (atPos ER g 0 ∅ 0 : sProp (MM F))))
  have hopen : bigSep scCells (fun g => (openTok ER g : sProp (MM F)))
      ⊢ bigSep Finset.univ fun c : Dev nD => bigSep Finset.univ fun j : Fin 16 => openTok ER (cell c (osem j)) :=
    Entails.of_eq (by rw [bigSep_map, bigSep_univ_prod]; rfl)
  unfold launchStock
  iintro ⟨Hv, Hu⟩
  imod (Rounds.fund_launch ER (sched q) disjoint_cells (fun g _ h => h) allToks) $$ [Hv Hu] with ⟨%K, -, #Hinv, #Hr, Hat, Hopen, Htok⟩
  · isplitl [Hv]
    · iapply hv; iexact Hv
    · iexact Hu
  imodintro
  iexists K
  isplitr
  · isplitr
    · unfold recs; iexact Hinv
    · iexact Hr
  unfold dealt
  iapply (pair (F := F) _ _); isplitl [Hat]; · iapply hat; iexact Hat
  iapply (pair (F := F) _ _); isplitl [Hopen]; · iapply hopen; iexact Hopen
  iapply (toks_dealt (F := F))
  iexact Htok

/-- From the semaphores, the credits and the stock at launch, every device has what its kernel needs. -/
theorem all_kept :
    iprop((bigSep Finset.univ fun c : Dev nD => (unscopedSems0 c : sProp (MM F))) ∗ (bigSep Finset.univ fun c : Dev nD => Pipeline.launchCred O₀ c)
        ∗ bigSep Finset.univ G)
      ⊢ |={Set.univ}=> bigSep Finset.univ (kept q) := by
  rw [G_all]
  iintro ⟨Hv, HC, Hu⟩
  imod (stock_dealt q) $$ [Hv Hu] with ⟨%K, #HR, HD⟩
  · isplitl [Hv]; · iexact Hv
    iexact Hu
  imodintro
  iapply (bigSep_with_persistent (R := common q K) (Φ := fun c => iprop(dealt c ∗ Pipeline.launchCred O₀ c)) fun c _ => kept_intro q K c)
  isplitr; · iexact HR
  iapply (pair (F := F) _ _)
  isplitl [HD]; · iexact HD
  iexact HC

end Cert.KernelIdeal.Comm

end
-- ==== Proof.GemmBody.lean ====
/-
  The first kernel: one block of the half product, accumulated over the eight blocks of the contracted axis.

  The grid is 2 × 2 × 8, the last axis innermost. At a point the body finds a 1024 × 1024 block x of the rows and a
  2048 × 1024 block w of the weights, and adds x wᵀ into a 1024 × 2048 block, which it clears first where the last
  coordinate is zero.
-/
module

public import proofs.«01_k».proof.Proof.CommSteps
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Value
public import Idealize.ShloMosaic.Lib.Pipeline.RegionArrays

@[expose] public section

noncomputable section

namespace Cert.KernelIdeal.Gemm

open Idealize.ShloMosaic Idealize.ShloMosaic.TcCoe Cert.KernelIdeal.Gen Cert.KernelIdeal.Comm
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation BodyObligationLoose)

variable {F : FTy → Type} [FloatOps F]

theorem zeros2 : (![0, 0] : Fin 2 → Nat) = fun _ => 0 := funext fun a => by fin_cases a <;> rfl

/-- What a store over a whole buffer leaves, read through the buffer; -/
theorem read_stored {S : Shape} (M : Memref sig .tc .vmem S .f32) {off : Fin S.rank → Nat} (h : off = fun _ => 0)
    (inb : ∀ a, off a + S.size a ≤ S.size a) (f : M.view.ty.Contents (Elt F)) (w : S.Idx → Elt F .f32) :
    M.view.read (Elt F) ((M.access (Rect.unit off S.size inb)).write (Elt F) f w Finset.univ) = w := by
  have e := View.read_writes_eq_canon (Val := Elt F) M.view f [⟨Rect.unit off S.size inb, w⟩] (fun y => ⟨_, List.mem_singleton_self _, View.mem_set_unit_zero h inb y⟩)
  rw [View.canon_unit_zero h] at e
  exact e

/-- what a load of a whole buffer reads. -/
theorem read_loaded {S : Shape} (M : Memref sig .tc .vmem S .f32) {off : Fin S.rank → Nat} (h : off = fun _ => 0)
    (inb : ∀ a, off a + S.size a ≤ S.size a) (f : M.view.ty.Contents (Elt F)) :
    M.view.readAt (Elt F) (Rect.unit off S.size inb).toLoadRect f = M.view.read (Elt F) f :=
  View.ld_unit_zero h inb (M.view.read (Elt F) f)

/-- The block cleared, and the block with one more product added. -/
abbrev cleared : Vec F S1024x2048 .f32 := k0_pay1
abbrev added (z : Vec F S1024x2048 .f32) (x : Vec F S1024x1024 .f32) (w : Vec F S2048x1024 .f32) : Vec F S1024x2048 .f32 := k0_pay2 z x w

/-- The test of the last coordinate. -/
theorem first_iff (n : Fin 8) : (Scalar.cmpi .ne (Scalar.extui (Scalar.cmpi .eq (BitVec.ofNat 32 n.val) 0#32)) 0#32 : BitVec 1) = 1#1 ↔ n.val = 0 := by
  revert n; decide

theorem setOn_le {S : Shape} (M : Memref sig .tc .vmem S .f32) (R : Finset S.Idx) : M.view.setOn R ⊆ M.view.set :=
  Finset.map_subset_map.mpr (Finset.subset_univ R)
theorem access_le {S : Shape} (M : Memref sig .tc .vmem S .f32) (r : Rect S) : (M.access r).setOn Finset.univ ⊆ M.view.set := by
  show (M.view.slice r).set ⊆ M.view.set
  rw [View.set_slice]
  exact setOn_le M _

variable (c : Dev nD)

/-- The product added in: from the three buffers held at what they read, to the third at the sum. -/
theorem add_wp (A : Memref sig .tc .vmem S1024x1024 .f32) (B : Memref sig .tc .vmem S2048x1024 .f32) (C : Memref sig .tc .vmem S1024x2048 .f32)
    (x : Vec F S1024x1024 .f32) (w : Vec F S2048x1024 .f32) (z : Vec F S1024x2048 .f32) (Q : PUnit → sProp (MM F)) :
    iprop(owns (c : Thread nD τ) A fullShare x ∗ owns (c : Thread nD τ) B fullShare w ∗ owns (c : Thread nD τ) C fullShare z)
      ⊢ iprop((owns (c : Thread nD τ) A fullShare x ∗ owns (c : Thread nD τ) B fullShare w ∗ owns (c : Thread nD τ) C fullShare (added z x w) -∗ Q ⟨⟩)
        -∗ WP c (do
          let v3 : Vec F S1024x2048 .f32 ← Prog.lift (.load C (Rect.unit (s := S1024x2048) ![0, 0] S1024x2048.size inb_S1024x2048_S1024x2048_0_0).toLoadRect (View.loadsAt_vmem h_S1024x2048))
          let v5 : Vec F S1024x1024 .f32 ← Prog.lift (.load A (Rect.unit (s := S1024x1024) ![0, 0] S1024x1024.size inb_S1024x1024_S1024x1024_0_0).toLoadRect (View.loadsAt_vmem h_S1024x1024))
          let v7 : Vec F S2048x1024 .f32 ← Prog.lift (.load B (Rect.unit (s := S2048x1024) ![0, 0] S2048x1024.size inb_S2048x1024_S2048x1024_0_0).toLoadRect (View.loadsAt_vmem h_S2048x1024))
          let _v11 : Vec F S1024x2048 .f32 ← Prog.lift (.load C (Rect.unit (s := S1024x2048) ![0, 0] S1024x2048.size inb_S1024x2048_S1024x2048_0_0).toLoadRect (View.loadsAt_vmem h_S1024x2048))
          Prog.lift (.store C (Rect.unit (s := S1024x2048) ![0, 0] S1024x2048.size inb_S1024x2048_S1024x2048_0_0) (k0_pay2 v3 v5 v7) Finset.univ (View.stores_vmem_bits_univ h_S1024x2048 rfl) (.inl rfl))
          pure ⟨⟩) Q) := by
  unfold owns
  iintro ⟨⟨%f, %hf, HA⟩, ⟨%g, %hg, HB⟩, ⟨%h, %hh, HC⟩⟩ Hk
  iapply (wp_load 𝒱₀ (c : Thread nD τ) none Set.univ (setOn_le C _)) $$ HC
  iintro HC
  iapply (wp_load 𝒱₀ (c : Thread nD τ) none Set.univ (setOn_le A _)) $$ HA
  iintro HA
  iapply (wp_load 𝒱₀ (c : Thread nD τ) none Set.univ (setOn_le B _)) $$ HB
  iintro HB
  iapply (wp_load 𝒱₀ (c : Thread nD τ) none Set.univ (setOn_le C _)) $$ HC
  iintro HC
  iapply (wp_store 𝒱₀ (c : Thread nD τ) none Set.univ (m := C) (r := Rect.unit (s := S1024x2048) ![0, 0] S1024x2048.size inb_S1024x2048_S1024x2048_0_0) (Mk := Finset.univ) (S := C.view.set) (f := h) (access_le C _)) $$ HC
  iintro HC
  rw [read_loaded C zeros2, read_loaded A zeros2, read_loaded B zeros2, hf, hg, hh]
  iapply (Entails.of_eq (wp_ret (Fr := Idealize.ShloMosaic.frame) _ _ _ _).symm)
  imodintro
  iapply Hk
  isplitl [HA]
  · iexists _; isplitr; swap; (· iexact HA); ipureintro; exact hf
  isplitl [HB]
  · iexists _; isplitr; swap; (· iexact HB); ipureintro; exact hg
  iexists _; isplitr; swap; (· iexact HC); ipureintro; exact read_stored C zeros2 _ _ _

/-- The body at a point: the third buffer is cleared first where the last coordinate is zero. -/
theorem body_wp (i : grid0.Coords) (A : Memref sig .tc .vmem S1024x1024 .f32) (hA : A.IsWhole) (B : Memref sig .tc .vmem S2048x1024 .f32) (hB : B.IsWhole)
    (C : Memref sig .tc .vmem S1024x2048 .f32) (hC : C.IsWhole) (x : Vec F S1024x1024 .f32) (w : Vec F S2048x1024 .f32) (z : Vec F S1024x2048 .f32)
    (Q : PUnit → sProp (MM F)) :
    iprop(owns (c : Thread nD τ) A fullShare x ∗ owns (c : Thread nD τ) B fullShare w ∗ owns (c : Thread nD τ) C fullShare z)
      ⊢ iprop((owns (c : Thread nD τ) A fullShare x ∗ owns (c : Thread nD τ) B fullShare w
          ∗ owns (c : Thread nD τ) C fullShare (added (if (i 2).val = 0 then cleared else z) x w) -∗ Q ⟨⟩)
        -∗ WP c (cc0__gemm_body i A hA B hB C hC) Q) := by
  rw [cc0__gemm_body_eq_skeleton]
  unfold cc0__gemm_body_skel
  by_cases h0 : (i 2).val = 0
  · have hc := (first_iff (i 2)).mpr h0
    rw [if_pos h0]
    dsimp only
    rw [dif_pos hc]
    iintro ⟨HA, HB, HC⟩ Hk
    iapply (show owns (c : Thread nD τ) C fullShare z ⊢ iprop((owns (c : Thread nD τ) C fullShare (cleared (F := F)) -∗ _) -∗ _) from by
      unfold owns
      iintro ⟨%h, %hh, HC⟩ Hk
      iapply (wp_load 𝒱₀ (c : Thread nD τ) none Set.univ (setOn_le C _)) $$ HC
      iintro HC
      iapply (wp_store 𝒱₀ (c : Thread nD τ) none Set.univ (m := C) (r := Rect.unit (s := S1024x2048) ![0, 0] S1024x2048.size inb_S1024x2048_S1024x2048_0_0) (Mk := Finset.univ) (S := C.view.set) (f := h) (access_le C _)) $$ HC
      iintro HC
      iapply Hk
      iexists _; isplitr; swap; (· iexact HC); ipureintro; exact read_stored C zeros2 _ _ _) $$ HC
    iintro HC
    iapply (add_wp c A B C x w cleared Q) $$ [HA HB HC]
    · isplitl [HA]; · iexact HA
      isplitl [HB] <;> iassumption
    iexact Hk
  · have hc := fun e => h0 ((first_iff (i 2)).mp e)
    rw [if_neg h0]
    dsimp only
    rw [dif_neg hc]
    exact add_wp c A B C x w z Q

end Cert.KernelIdeal.Gemm

end
-- ==== Proof.GemmArray.lean ====
/-
  The first kernel over its grid: what each point leaves, and what its result array ends holding.

  Point t = 16 i + 8 j + k works on the block (i, j) of the half product. The eight points of one block add up the eight
  products along the contracted axis, from a cleared block; the last of them writes it out.
-/
module

public import proofs.«01_k».proof.Proof.GemmBody

@[expose] public section

noncomputable section

namespace Cert.KernelIdeal.Gemm

open Idealize.ShloMosaic Idealize.ShloMosaic.TcCoe Cert.KernelIdeal.Gen Cert.KernelIdeal.Comm
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation BodyObligationLoose)

variable {F : FTy → Type} [FloatOps F]

/-- The coordinates of a point. -/
theorem coord0 : ∀ t : Fin cfg0.N, (grid0.coords t 0).val = t.val / 16 := by decide +kernel
theorem coord1 : ∀ t : Fin cfg0.N, (grid0.coords t 1).val = t.val / 8 % 2 := by decide +kernel
theorem coord2 : ∀ t : Fin cfg0.N, (grid0.coords t 2).val = t.val % 8 := by decide +kernel
theorem points : cfg0.N = 32 := N_0

/-! ## The block a point leaves -/

-- The contents of the arrays when the kernel is entered, by device.
variable (V : Dev nD → Valuation τ sig (Elt F))

/-- The block of the rows, and of the weights, at a point. -/
def rowsAt (c : Dev nD) (t : Fin cfg0.N) : Vec F S1024x1024 .f32 := ((cfg0.win 0).blk t).view.read (Elt F) (V c main_v9)
def weightsAt (c : Dev nD) (t : Fin cfg0.N) : Vec F S2048x1024 .f32 := ((cfg0.win 1).blk t).view.read (Elt F) (V c main_arg1)

/-- The result block after point n. -/
def accAt (c : Dev nD) : (n : ℕ) → n < cfg0.N → Vec F S1024x2048 .f32
  | 0, h => added cleared (rowsAt V c ⟨0, h⟩) (weightsAt V c ⟨0, h⟩)
  | n + 1, h => added (if (n + 1) % 8 = 0 then cleared else accAt c n (Nat.lt_of_succ_lt h)) (rowsAt V c ⟨n + 1, h⟩) (weightsAt V c ⟨n + 1, h⟩)

theorem accAt_first (c : Dev nD) (n : ℕ) (h : n < cfg0.N) (h0 : n % 8 = 0) :
    accAt V c n h = added cleared (rowsAt V c ⟨n, h⟩) (weightsAt V c ⟨n, h⟩) := by
  cases n with
  | zero => rfl
  | succ n => show added (if _ then _ else _) _ _ = _; rw [if_pos h0]
theorem accAt_next (c : Dev nD) (n : ℕ) (h : n + 1 < cfg0.N) (h0 : ¬(n + 1) % 8 = 0) :
    accAt V c (n + 1) h = added (accAt V c n (Nat.lt_of_succ_lt h)) (rowsAt V c ⟨n + 1, h⟩) (weightsAt V c ⟨n + 1, h⟩) := by
  show added (if _ then _ else _) _ _ = _; rw [if_neg h0]

/-! ## The data of the run -/

/-- The scoped buffers that the kernel does not stage lie idle; the core owes what it owes throughout. -/
def dat0 (c : Dev nD) : Dat τ (Elt F) ℕ ℕ UU ℕ cfg0 c where
  A w := V c (Pipeline.arrRef spec0 w)
  after w t := match w with
    | ⟨0, _⟩ => rowsAt V c t
    | ⟨1, _⟩ => weightsAt V c t
    | ⟨2, _⟩ => accAt V c t.val t.isLt
  Φ _ := Pipeline.scopedRest (Ix := ℕ) (Name := ℕ) (U := UU) (Lvl := ℕ) (Val := Elt F) spec0 c
  q _ := fullShare
  owed _ := O₀ c

theorem before_rows (c : Dev nD) (t : Fin cfg0.N) (d) : (dat0 V c).before 0 t d = rowsAt V c t :=
  ((dat0 V c).before_fetched 0 t (fetch0_0 t) d).trans rfl
theorem before_weights (c : Dev nD) (t : Fin cfg0.N) (d) : (dat0 V c).before 1 t d = weightsAt V c t :=
  ((dat0 V c).before_fetched 1 t (fetch0_1 t) d).trans rfl
theorem before_acc (c : Dev nD) (n : ℕ) (h : n + 1 < cfg0.N) (h0 : ¬(n + 1) % 8 = 0) (d) :
    (dat0 V c).before 2 ⟨n + 1, h⟩ d = accAt V c n (Nat.lt_of_succ_lt h) :=
  (dat0 V c).before_out_kept 2 rfl ⟨n + 1, h⟩ (Nat.succ_ne_zero n)
    (Bool.eq_false_iff.mpr fun hf => h0 (by have := (flush0_2 _).mp hf; dsimp only at this; omega)) (fun _ => rfl) (fun _ _ => rfl) d

/-- The block a point leaves, from what it finds. -/
theorem acc_step (c : Dev nD) (t : Fin cfg0.N) (d) :
    added (if (grid0.coords t 2).val = 0 then cleared else (dat0 V c).before 2 t d) (rowsAt V c t) (weightsAt V c t) = accAt V c t.val t.isLt := by
  rw [coord2]
  obtain ⟨n, h⟩ := t
  by_cases h0 : n % 8 = 0
  · rw [if_pos h0, accAt_first V c n h h0]
  · cases n with
    | zero => exact absurd rfl h0
    | succ n => rw [if_neg h0, accAt_next V c n h h0, before_acc V c n h h0]

/-- Every point runs. -/
theorem body0 (c : Dev nD) : BodyObligation (dat0 V c) (defs₀ (F := F)) 𝒱₀ 0 Set.univ := fun t => by
  rw [bigSep_W0, bigSep_W0]
  rw [show (dat0 V c).Φ t.castSucc = (dat0 V c).Φ t.succ from rfl, show (dat0 V c).owesAt 0 t.succ = (dat0 V c).owesAt 0 t.castSucc from rfl]
  iintro ⟨HΦ, HO, ⟨%d0, H0⟩, ⟨%d1, H1⟩, ⟨%d2, H2⟩⟩
  rw [before_rows, before_weights]
  iapply (body_wp c (grid0.coords t) _ (hstage0_0 ((cfg0.slots t 0).cast nbuf0_0)) _ (hstage0_1 ((cfg0.slots t 1).cast nbuf0_1)) _ (hstage0_2 ((cfg0.slots t 2).cast nbuf0_2)) (rowsAt V c t) (weightsAt V c t) ((dat0 V c).before 2 t d2) _) $$ [H0 H1 H2]
  · isplitl [H0]; · iexact H0
    isplitl [H1]; · iexact H1
    iexact H2
  rw [acc_step]
  iintro ⟨H0, H1, H2⟩
  isplitl [HΦ]; · iexact HΦ
  isplitl [HO]; · iexact HO
  isplitl [H0]; · iexact H0
  isplitl [H1]; · iexact H1
  iexact H2

/-! ## The result array -/

/-- The point that writes out the block of a row and a column. -/
def lastOf (i : S2048x4096.Idx) : ℕ := 16 * ((i 0).val / 1024) + 8 * ((i 1).val / 2048) + 7
theorem lastOf_lt (i : S2048x4096.Idx) : lastOf i < cfg0.N := by
  rw [points]
  have h0 : (i 0).val < 2048 := (i 0).isLt
  have h1 : (i 1).val < 4096 := (i 1).isLt
  unfold lastOf
  omega
/-- Where a row and a column lie in their block. -/
def within (i : S2048x4096.Idx) : S1024x2048.Idx := fun a => match a with
  | ⟨0, _⟩ => ⟨(i 0).val % 1024, Nat.mod_lt _ (by decide)⟩
  | ⟨1, _⟩ => ⟨(i 1).val % 2048, Nat.mod_lt _ (by decide)⟩
/-- The half product of a device: each block as its last point leaves it. -/
def half (c : Dev nD) : main_v10.ty.Contents (Elt F) := fun i =>
  accAt V c (lastOf i) (lastOf_lt i) (within i)

/-- Where an element of a point's result block sits. -/
theorem blk_emb (t : Fin cfg0.N) (y : S1024x2048.Idx) (a : Fin 2) :
    ((((cfg0.win 2).blk t).view.emb y : S2048x4096.Idx) a).val = win0_2.index t a * ![1024, 2048] a + (y a).val :=
  Pipeline.Window.rect_emb_val win0_2 t y a
theorem index_rows : ∀ t : Fin cfg0.N, win0_2.index t 0 = t.val / 16 := by decide +kernel
theorem index_cols : ∀ t : Fin cfg0.N, win0_2.index t 1 = t.val / 8 % 2 := by decide +kernel

theorem accAt_congr (c : Dev nD) {n n' : ℕ} (h : n < cfg0.N) (h' : n' < cfg0.N) (e : n = n') : accAt V c n h = accAt V c n' h' := by subst e; rfl

theorem half_read (c : Dev nD) (t : Fin cfg0.N) (hf : t.val % 8 = 7) (y : S1024x2048.Idx) :
    half V c (((cfg0.win 2).blk t).view.emb y) = accAt V c t.val t.isLt y := by
  have e0 := blk_emb t y 0
  have e1 := blk_emb t y 1
  rw [index_rows, show ![1024, 2048] (0 : Fin 2) = 1024 from rfl] at e0
  rw [index_cols, show ![1024, 2048] (1 : Fin 2) = 2048 from rfl] at e1
  have h0 : (y 0).val < 1024 := (y 0).isLt
  have h1 : (y 1).val < 2048 := (y 1).isLt
  have ht : t.val < 32 := lt_of_lt_of_eq t.isLt points
  unfold half
  rw [accAt_congr V c (lastOf_lt _) t.isLt (by unfold lastOf; omega)]
  refine congrArg _ (funext fun a => Fin.ext ?_)
  match a with
  | ⟨0, _⟩ => show (((cfg0.win 2).blk t).view.emb y 0).val % 1024 = (y 0).val; omega
  | ⟨1, _⟩ => show (((cfg0.win 2).blk t).view.emb y 1).val % 2048 = (y 1).val; omega

/-- The result array ends at the half product. -/
theorem final (c : Dev nD) : (dat0 V c).arrAt 2 cfg0.N = half V c :=
  (dat0 V c).arrAt_eq_of_cover 2 (half V c)
    (fun t hf => funext fun y => (half_read V c t ((flush0_2 t).mp hf) y).symm)
    fun i => ⟨⟨lastOf i, lastOf_lt i⟩, (flush0_2 _).mpr (by show lastOf i % 8 = 7; unfold lastOf; omega), by
      have h0 : (i 0).val < 2048 := (i 0).isLt
      have h1 : (i 1).val < 4096 := (i 1).isLt
      refine Finset.mem_map.mpr ⟨within i, Finset.mem_univ _, ?_⟩
      refine funext fun a => Fin.ext ?_
      match a with
      | ⟨0, _⟩ => exact (blk_emb _ _ 0).trans (by rw [index_rows]; show lastOf i / 16 * 1024 + (i 0).val % 1024 = (i 0).val; unfold lastOf; omega)
      | ⟨1, _⟩ => exact (blk_emb _ _ 1).trans (by rw [index_cols]; show lastOf i / 8 % 2 * 2048 + (i 1).val % 2048 = (i 1).val; unfold lastOf; omega)⟩

end Cert.KernelIdeal.Gemm

end
-- ==== Proof.Run.lean ====
/-
  The whole program on every device: the rows of the first operand are cut out, the first kernel leaves the half product,
  the second leaves the result. Every execution ends, the operands as they were, the result's contents named, every
  semaphore at zero.
-/
module

public import proofs.«01_k».proof.Proof.CommLaunch
public import proofs.«01_k».proof.Proof.GemmArray
public import proofs.«01_k».proof.Proof.Gen.KernelIdeal.Regions
public import Idealize.ShloMosaic.Lib.Pipeline.RegionArraysS
public import Idealize.ShloMosaic.Lib.Pipeline.RegionTalk

@[expose] public section

noncomputable section

namespace Cert.KernelIdeal.Run

open Idealize.ShloMosaic Idealize.ShloMosaic.TcCoe Cert.KernelIdeal.Gen Cert.KernelIdeal.Comm
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F] (m : (ℓ : Loc nD τ sig) → Buf (Elt F) ℓ) (ρ : Dev nD → PrngReg)

/-! ## The contents between the steps -/

/-- The half product of each device. -/
abbrev part (c : Dev nD) : main_v10.ty.Contents (Elt F) := Gemm.half (V1 m) c
/-- After the first kernel, and after the second. -/
def V₂ (c : Dev nD) : Valuation τ sig (Elt F) := Pipeline.afterRegion (Gemm.dat0 (V1 m) c) (V1 m c)
def V₃ (c : Dev nD) : Valuation τ sig (Elt F) := Function.update (V₂ m c) (Proc.devRef .tc main_v11) (outv (part m) c)

theorem V₂_part (c : Dev nD) : V₂ m c main_v10 = part m c :=
  (Pipeline.afterRegion_arr (Gemm.dat0 (V1 m) c) (V1 m c) launch0.win.arr_inj 2).trans (Gemm.final (V1 m) c)
theorem V₂_keeps (c : Dev nD) (r : Ref sig .tc) (h : ∀ w : Fin 3, Pipeline.arrRef spec0 w = r → (cfg0.win w).isOut = false) : V₂ m c r = V1 m c r :=
  Pipeline.afterRegion_keeps (Gemm.dat0 (V1 m) c) (V1 m c) launch0.win.arr_inj (fun _ => rfl) r h
theorem V₃_out (c : Dev nD) : V₃ m c main_v11 = outv (part m) c := Function.update_self _ _ _
theorem V₃_keeps (c : Dev nD) (b : DevRef τ sig) (h : b ≠ Proc.devRef .tc main_v11) : V₃ m c b = V₂ m c b := Function.update_of_ne h _ _
theorem V₃_arg0 (c : Dev nD) : V₃ m c main_arg0 = m ((c : Thread nD τ).loc main_arg0) :=
  (V₃_keeps m c _ (by decide)).trans ((V₂_keeps m c main_arg0 (by decide)).trans (V1_of m c main_arg0 (by decide)))
theorem V₃_arg1 (c : Dev nD) : V₃ m c main_arg1 = m ((c : Thread nD τ).loc main_arg1) :=
  (V₃_keeps m c _ (by decide)).trans ((V₂_keeps m c main_arg1 (by decide)).trans (V1_of m c main_arg1 (by decide)))

/-! ## The two kernels as steps -/

def pdats : (p : Fin 2) → (c : Dev nD) → Dat τ (Elt F) ℕ ℕ UU ℕ (cfgs p) c
  | ⟨0, _⟩ => Gemm.dat0 (V1 m)
  | ⟨1, _⟩ => dat1 (part m) (V₂ m) (V₃ m)

theorem facts0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem facts1 : Pipeline.PLaunchFacts (nD := nD) (τ := τ) (pcfgs (F := F)) 1 where
  cellOf_inj a := by rw [Subsingleton.elim a adm]; exact cellOf_inj
  win := winFacts1
  pre := Pipeline.PreFacts.none _
  block_pos w := w.elim0
  arr_whole w := w.elim0
  stage_whole w := w.elim0

/-- What waits while the first kernel runs. -/
abbrev aside (c : Dev nD) : sProp (MM F) := iprop(kept (part m) c ∗ ∃ r, prngReg c r)

theorem share0 (c : Dev nD) (w : Fin 3) : (Gemm.dat0 (V1 m) c).share w = fullShare := by
  unfold Dat.share
  split <;> rfl
theorem staging_level (c : Dev nD) : ∀ (w : Fin 3) (s : Fin (cfg0.win w).nbuf), lv (cell c (.dma ((cfg0.win w).sem s))) 0 ≤ 0 := by
  revert c
  decide +kernel
theorem owed_start (c : Dev nD) : (dat1 (part m) (V₂ m) (V₃ m) c).owed 0 = O₀ c := by
  show (if 0 = 0 then O₀ c else 0) = _
  exact if_pos rfl
theorem owed_end (c : Dev nD) : (dat1 (part m) (V₂ m) (V₃ m) c).owed (Fin.last cfg1.N) = 0 := by
  show (if cfg1.N = 0 then O₀ c else 0) = _
  rw [show cfg1.N = 1 from N_1]
  rfl
theorem phi_start (c : Dev nD) : (dat1 (part m) (V₂ m) (V₃ m) c).Φ 0 = entry (part m) (V₂ m) c := by
  show (if 0 = 0 then entry (part m) (V₂ m) c else leaving (V₃ m) c) = _
  exact if_pos rfl
theorem phi_end (c : Dev nD) : (dat1 (part m) (V₂ m) (V₃ m) c).Φ (Fin.last cfg1.N) = leaving (V₃ m) c := by
  show (if cfg1.N = 0 then entry (part m) (V₂ m) c else leaving (V₃ m) c) = _
  rw [show cfg1.N = 1 from N_1]
  rfl
theorem gemm_in (c : Dev nD) : iprop(Pipeline.scopedRest (Ix := ℕ) (Name := ℕ) (U := UU) (Lvl := ℕ) (Val := Elt F) spec0 c ∗ emp) ⊢ (Gemm.dat0 (V1 m) c).Φ 0 := by
  show _ ⊢ (Pipeline.scopedRest (Ix := ℕ) (Name := ℕ) (U := UU) (Lvl := ℕ) (Val := Elt F) spec0 c : sProp (MM F))
  iintro ⟨H, -⟩
  iexact H
theorem gemm_out (c : Dev nD) : (Gemm.dat0 (V1 m) c).Φ (Fin.last cfg0.N) ⊢ iprop(Pipeline.scopedRest (Ix := ℕ) (Name := ℕ) (U := UU) (Lvl := ℕ) (Val := Elt F) spec0 c ∗ emp) := by
  show (Pipeline.scopedRest (Ix := ℕ) (Name := ℕ) (U := UU) (Lvl := ℕ) (Val := Elt F) spec0 c : sProp (MM F)) ⊢ _
  iintro H
  isplitl [H]
  · iexact H
  · iempintro

set_option backward.isDefEq.respectTransparency.types false in
def reg0 : RegionSeg (pcfgs (F := F)) adm (pdats m) 0 defs₀ 𝒱₀ L lv 0 :=
  RegionSeg.ofHeldIn (pcfgs (F := F)) adm (pdats m) 0 defs₀ 𝒱₀ L lv 0 O₀ (Pipeline.ucRefs τ sig) (fun _ => iprop(emp)) (fun _ => iprop(emp)) facts0 rfl
    (fun c => (Gemm.body0 (V1 m) c).loose) (fun _ _ => rfl) (fun _ => rfl) (share0 m)
    (gemm_in m) (gemm_out m)
    (fun _ => 0)
    ⟨fun c _ _ => mem_L c _ 0 (by decide), fun c w s => staging_level c w s, fun c g i h => above_O₀ c g i h⟩
    (aside m) (V1 m) (fun _ _ => rfl)

set_option backward.isDefEq.respectTransparency.types false in
def reg1 : RegionSeg (pcfgs (F := F)) adm (pdats m) 0 defs₀ 𝒱₀ L lv 1 :=
  RegionSeg.ofTalk (pcfgs (F := F)) adm (pdats m) 0 defs₀ 𝒱₀ L lv 1 osem (by decide : Pipeline.OwnSemFacts cfg1.spec osem)
    bufs (Pipeline.ucRefs τ sig) (by decide) facts1 rfl
    (fun c => (body1 (part m) (V₂ m) (V₃ m) c (V₂_part m c) ((V₃_keeps m c _ (by decide)).trans (V₂_part m c)) (V₃_out m c)).loose)
    (fun _ => 0) O₀ (fun c => (owed_start m c).trans (zero_add _).symm) (owed_end m) (fun _ => rfl) (fun _ w => w.elim0)
    (V₂ m) (V₃ m) (fun c b hb => V₃_keeps m c b fun e => (Finset.mem_sdiff.mp hb).2 (e ▸ by decide))
    (kept (part m)) (fun c => semVal (cell c (.reg barS)) 0) (opened (part m)) (fun c => semVal (cell c (.reg barS)) 0)
    (kept_open (part m))
    (fun c => Entails.of_eq (phi_start m c).symm)
    (fun c => Entails.of_eq (phi_end m c))
    (fun c => by iintro H; imodintro; iexact H)
    (fun _ => 0)
    ⟨fun _ w => w.elim0, fun _ w => w.elim0, fun c t g i h => by
      have h' : 0 < (if t.val = 0 then O₀ c else 0) g i := h
      split at h'
      · exact above_O₀ c g i h'
      · exact absurd h' (Nat.lt_irrefl 0)⟩
    (fun _ => iprop(emp)) (fun _ w => w.elim0) (fun _ w => w.elim0)

/-- Between the steps: the buffers, what waits, and what is owed. -/
abbrev owing0 (c : Dev nD) : sProp (MM F) := iprop(∃ W, owes (c : Thread nD τ) (O₀ c) W)

theorem arrays0 : Pipeline.arrRefs (τ := τ) (pcfgs (F := F) 0).spec ⊆ Pipeline.ucRefs τ sig := by
  show Pipeline.arrRefs (τ := τ) spec0 ⊆ Pipeline.ucRefs τ sig
  decide

theorem reg0_pre (c : Dev nD) :
    iprop(StableHlo.held (c : Thread nD τ) (Pipeline.ucRefs τ sig) (V1 m c) ∗ owing0 c ∗ aside m c) ⊢ (reg0 m).pre c := by
  refine BIBase.Entails.trans ?_ (RegionSeg.ofHeldIn_pre arrays0 c)
  iintro ⟨Hh, HO, HR⟩
  isplitl [Hh]; · iexact Hh
  isplitl [HO]; · iexact HO
  isplitr; · iempintro
  iexact HR

theorem reg0_post (c : Dev nD) :
    (reg0 m).post c ⊢ iprop(StableHlo.held (c : Thread nD τ) (Pipeline.ucRefs τ sig) (V₂ m c) ∗ owing0 c ∗ aside m c) := by
  refine (RegionSeg.ofHeldIn_post arrays0 c).trans ?_
  iintro ⟨Hh, HO, -, HR⟩
  isplitl [Hh]; · iexact Hh
  isplitl [HO]; · iexact HO
  iexact HR

/-- The second kernel has no staged arrays. -/
theorem no_arrays (c : Dev nD) (W : Valuation τ sig (Elt F)) :
    (StableHlo.held (c.tc : Thread nD τ) (Pipeline.arrRefs (τ := τ) (pcfgs (F := F) 1).spec) W : sProp (MM F)) = BI.emp := by
  have h : Pipeline.arrRefs (τ := τ) (pcfgs (F := F) 1).spec = ∅ := by
    show Pipeline.arrRefs (τ := τ) cfg1.spec = ∅
    decide
  rw [h]
  unfold StableHlo.held
  exact BI.bigSep_empty

theorem reg1_pre (c : Dev nD) :
    iprop(StableHlo.held (c : Thread nD τ) (Pipeline.ucRefs τ sig) (V₂ m c) ∗ owing0 c ∗ aside m c) ⊢ (reg1 m).pre c := by
  show _ ⊢ iprop(StableHlo.held (c.tc : Thread nD τ) (Pipeline.arrRefs (τ := τ) (pcfgs (F := F) 1).spec) (V₂ m c) ∗ (∃ r, prngReg c r)
    ∗ (StableHlo.held (c.tc : Thread nD τ) (Pipeline.ucRefs τ sig) (V₂ m c) ∗ emp) ∗ kept (part m) c ∗ ∃ Wd, owes (c : Thread nD τ) (0 + O₀ c) Wd)
  rw [no_arrays, zero_add]
  iintro ⟨Hh, HO, HK, Hp⟩
  isplitr; · iempintro
  isplitl [Hp]; · iexact Hp
  isplitl [Hh]
  · isplitl [Hh]; · iexact Hh
    iempintro
  isplitl [HK]; · iexact HK
  iexact HO

/-- What a device ends with. -/
abbrev atEnd (c : Dev nD) : sProp (MM F) := iprop(StableHlo.held (c : Thread nD τ) (Pipeline.ucRefs τ sig) (V₃ m c) ∗ semVal (cell c (.reg barS)) 0)

theorem reg1_post (c : Dev nD) : (reg1 m).post c ⊢ iprop(atEnd m c ∗ ∃ W, owes (c : Thread nD τ) (0 : CellTallies nD τ sig ℕ) W) := by
  show iprop(StableHlo.held (c.tc : Thread nD τ) (Pipeline.arrRefs (τ := τ) (pcfgs (F := F) 1).spec) (V₃ m c) ∗ (∃ r, prngReg c r)
    ∗ (StableHlo.held (c.tc : Thread nD τ) (Pipeline.ucRefs τ sig) (V₃ m c) ∗ emp) ∗ semVal (cell c (.reg barS)) 0
    ∗ ∃ Wd, owes (c : Thread nD τ) (0 : CellTallies nD τ sig ℕ) Wd) ⊢ _
  rw [no_arrays]
  iintro ⟨-, -, ⟨Hh, -⟩, Hb, HO⟩
  isplitr [HO]
  · isplitl [Hh]; · iexact Hh
    iexact Hb
  iexact HO

/-! ## The launch -/

abbrev atStart (c : Dev nD) : sProp (MM F) :=
  iprop(StableHlo.held (c : Thread nD τ) (Pipeline.ucRefs τ sig) (V0 m c) ∗ owing0 c ∗ aside m c)

/-- What a device holds at launch, in three parts: its own, and the two that are dealt out. -/
theorem launch_split (c : Dev nD) :
    iprop(unscopedBufs c (fun b => m ((c.tc : Thread nD τ).loc b)) ∗ unscopedSems0 c ∗ owes (c.tc : Thread nD τ) (O₀ c) ∅ ∗ Pipeline.launchCred O₀ c ∗ prngReg c (ρ c) ∗ G c)
      ⊢ (iprop((StableHlo.held (c : Thread nD τ) (Pipeline.ucRefs τ sig) (V0 m c) ∗ owing0 c ∗ ∃ r, prngReg c r)
          ∗ (unscopedSems0 c ∗ Pipeline.launchCred O₀ c ∗ G c)) : sProp (MM F)) := by
  rw [← Pipeline.unscopedBufs_held (Ix := ℕ) (Name := ℕ) (U := UU) (Lvl := ℕ) c (V0 m c)]
  iintro ⟨Hb, Hs, HO, HC, Hp, HG⟩
  isplitl [Hb HO Hp]
  · isplitl [Hb]; · iexact Hb
    isplitl [HO]
    · iexists ∅; iexact HO
    iexists (ρ c); iexact Hp
  isplitl [Hs]; · iexact Hs
  isplitl [HC]; · iexact HC
  iexact HG
theorem launch_join (c : Dev nD) :
    iprop((StableHlo.held (c : Thread nD τ) (Pipeline.ucRefs τ sig) (V0 m c) ∗ owing0 c ∗ ∃ r, prngReg c r) ∗ kept (part m) c) ⊢ atStart m c := by
  iintro ⟨⟨Hh, HO, Hp⟩, HK⟩
  isplitl [Hh]; · iexact Hh
  isplitl [HO]; · iexact HO
  isplitl [HK]; · iexact HK
  iexact Hp

theorem split_all (Φ A B C D : Dev nD → sProp (MM F)) (h : ∀ c, Φ c ⊢ iprop(A c ∗ (B c ∗ C c ∗ D c))) :
    bigSep Finset.univ Φ ⊢ iprop(bigSep Finset.univ A ∗ (bigSep Finset.univ B ∗ bigSep Finset.univ C ∗ bigSep Finset.univ D)) := by
  rw [← bigSep_sep', ← bigSep_sep', ← bigSep_sep']
  exact bigSep_mono fun c _ => h c
theorem join_all (A B Φ : Dev nD → sProp (MM F)) (h : ∀ c, iprop(A c ∗ B c) ⊢ Φ c) :
    iprop(bigSep Finset.univ A ∗ bigSep Finset.univ B) ⊢ bigSep Finset.univ Φ := by
  rw [← bigSep_sep']
  exact bigSep_mono fun c _ => h c

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (atStart m) : sProp (MM F)) := by
  iintro ⟨H, -⟩
  ihave H := (split_all _ _ _ _ _ (launch_split m ρ)) $$ H
  icases H with ⟨HA, HB⟩
  imod (all_kept (part m)) $$ HB with HK
  imodintro
  iapply (join_all _ _ _ (launch_join m))
  isplitl [HA]; · iexact HA
  iexact HK

/-- The launch's own records, of the staging and of the protocol. -/
def u₀ : UU :=
  (initOf (Pipeline.cells (Pipeline.pin (pcfgs (F := F)) adm) cellOf_inj) (Pipeline.launchToks (Pipeline.pin (pcfgs (F := F)) adm) cellOf_inj),
    launchOf barCells scCells allToks)

theorem unscoped_bar : ∀ sm : SemLoc sig, sm.isScoped .tc = false → sm = .reg barS := by decide

/-! ## The run -/

/-- The program's steps on device c. -/
abbrev steps (c : Dev nD) : List (Seg (pcfgs (F := F)) adm (pdats m) 0 defs₀ 𝒱₀ L lv) :=
  segs m 𝒱₀ L lv (fun _ c => iprop(owing0 c ∗ aside m c)) 0 (pdats m) (reg0 m) (reg1 m) c

/-- What is read off a device's final memory. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v11) = outv (part m) c)
  ∧ s.sem (cell c (.reg barS)) = 0

set_option backward.isDefEq.respectTransparency.types false in
theorem ends (c : Dev nD) (s' : Phys nD τ sig (Elt F)) : iprop(atEnd m c ∗ SI s') ⊢ |={Set.univ}=> iprop(⌜Ends m c s'.mem⌝ ∗ SI s') := by
  unfold Ends atEnd StableHlo.held
  iintro ⟨⟨Hh, Hb⟩, HSI⟩
  icombine HSI Hb gives %hb
  ihave Hr := (pointsTo_read_all (Pipeline.ucRefs τ sig) (fun b => ((c : Thread nD τ).1, b)) (V₃ m c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V₃_arg0 m c),
      (h (Proc.devRef .tc main_arg1) (Finset.mem_filter.mpr ⟨StableHlo.devRef_mem_tcRefs main_arg1, by decide⟩)).trans (V₃_arg1 m c),
      (h (Proc.devRef .tc main_v11) (Finset.mem_filter.mpr ⟨StableHlo.devRef_mem_tcRefs main_v11, by decide⟩)).trans (V₃_out m c)⟩, by simpa using hb⟩
  iexact HSI

set_option backward.isDefEq.respectTransparency.types false in
/-- Every execution ends, with the operands as they were, the result of each device at `outv`, and every semaphore at zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v11) = outv (part m) c) ∧ r.2.sem = fun _ => 0) :=
  Pipeline.θ_run_regions_kit_dev_sems (pcfgs (F := F)) adm (pdats m) 0 cellOf_inj EP defs₀ 𝒱₀ L lv m ρ main (steps m)
    (fun c Q => by
      rewrite [main_chain c, Seg.run_eq_chain,
        show (steps m c).map Seg.prog = [
          StableHlo.seq (hostOps0 c),
          Prog.lift (.customCall (Pipeline.entry 0) ()),
          Prog.lift (.customCall (Pipeline.entry 1) ()) ] from rfl]
      dsimp (config := { failIfUnchanged := false }) only
      exact .rfl)
    (fun c => by simp only [steps, segs, Seg.pipes_host, Seg.pipes_region, Seg.pipes_nil]; decide)
    O₀ L_of_ne G u₀
    (by
      unfold u₀
      rw [G_all]
      unfold launchStock
      iintro Hu
      ihave H := (ownU_pair _ _) $$ Hu
      icases H with ⟨HP, HX⟩
      imodintro
      isplitl [HP]; · iexact HP
      iexact HX)
    (atStart m) (atEnd m)
    (fun c => ⟨.rfl, reg0_pre m c, (reg0_post m c).trans (reg1_pre m c), reg1_post m c⟩)
    (init m ρ) (Ends m) (ends m)
    (fun s h hs => ⟨fun c => (h c).1, sem_eq_zero hs fun c sm hsm => by
      obtain rfl := unscoped_bar sm hsm
      exact (h c).2⟩)

end Cert.KernelIdeal.Run

end
-- ==== Proof.GemmValue.lean ====
/-
  The half product in exact arithmetic: at row a and column b it is the sum over the 8192 contracted coordinates of the
  device of a row's element times a weight's.
-/
module

public import proofs.«01_k».proof.Proof.GemmArray
public import Idealize.ShloMosaic.Lib.MatmulPlain
public import Idealize.ShloMosaic.Lib.ValueIdx

@[expose] public section

noncomputable section

namespace Cert.KernelIdeal.Gemm

open Idealize.ShloMosaic Idealize.ShloMosaic.TcCoe Idealize.ShloMosaic.ValueIdx Cert.KernelIdeal.Gen

/-! ## A matrix by number coordinates -/

/-- The element of a matrix at a row and a column given as numbers. -/
def at2 {n k : ℕ} (X : (⟨2, ![n, k]⟩ : Shape).Idx → EReal) (a b : ℕ) : EReal :=
  if h : a < n ∧ b < k then X (ix2 ⟨a, h.1⟩ ⟨b, h.2⟩) else 0

theorem at2_of {n k : ℕ} (X : (⟨2, ![n, k]⟩ : Shape).Idx → EReal) (i : (⟨2, ![n, k]⟩ : Shape).Idx) {a b : ℕ}
    (ha : (i 0).val = a) (hb : (i 1).val = b) : at2 X a b = X i := by
  subst ha hb
  unfold at2
  rw [dif_pos ⟨(i 0).isLt, (i 1).isLt⟩]
  exact congrArg X (eq_ix2 i).symm

/-! ## One block -/

theorem gemm_dims : dot_S1024x1024_S2048x1024_S1024x2048_1_1_0_0_n_n = DotDims.transposedRhs 1024 1024 2048 := rfl

/-- The block cleared holds zeros. -/
theorem cleared_at (j : S1024x2048.Idx) : (cleared (F := Ideal)) j = 0 := Ideal.ofBits_zero_f32

/-- One more product: at a row and a column, the sum over the 1024 coordinates of the block is added. -/
theorem added_at (z : Vec Ideal S1024x2048 .f32) (x : Vec Ideal S1024x1024 .f32) (w : Vec Ideal S2048x1024 .f32) (r : Fin 1024) (s : Fin 2048) :
    added z x w (ix2 r s) = z (ix2 r s) + ∑ k : Fin 1024, x (ix2 r k) * w (ix2 s k) := by
  unfold added k0_pay2
  simp only [shapeCast_self]
  show z (ix2 r s) + FloatOps.matmul (F := Ideal) dot_S1024x1024_S2048x1024_S1024x2048_1_1_0_0_n_n none x w (constant (F := Ideal) S1024x2048 .f32 0x00000000#32) (ix2 r s) = _
  rw [gemm_dims, Ideal.matmul_transposedRhs_apply]
  rw [show constant (F := Ideal) S1024x2048 .f32 0x00000000#32 (ix2 r s) = (0 : EReal) from Ideal.ofBits_zero_f32, zero_add]

/-! ## The blocks read off the arrays -/

variable (V : Dev nD → Valuation τ sig (Elt Ideal))

/-- The rows and the weights that the kernel reads. -/
abbrev rowsOf (c : Dev nD) : (⟨2, ![2048, 8192]⟩ : Shape).Idx → EReal := V c main_v9
abbrev weightsOf (c : Dev nD) : (⟨2, ![4096, 8192]⟩ : Shape).Idx → EReal := V c main_arg1

theorem rows_emb (t : Fin cfg0.N) (y : S1024x1024.Idx) (a : Fin 2) :
    ((((cfg0.win 0).blk t).view.emb y : S2048x8192.Idx) a).val = win0_0.index t a * ![1024, 1024] a + (y a).val :=
  Pipeline.Window.rect_emb_val win0_0 t y a
theorem weights_emb (t : Fin cfg0.N) (y : S2048x1024.Idx) (a : Fin 2) :
    ((((cfg0.win 1).blk t).view.emb y : S4096x8192.Idx) a).val = win0_1.index t a * ![2048, 1024] a + (y a).val :=
  Pipeline.Window.rect_emb_val win0_1 t y a
theorem rows_index0 : ∀ t : Fin cfg0.N, win0_0.index t 0 = t.val / 16 := by decide +kernel
theorem rows_index1 : ∀ t : Fin cfg0.N, win0_0.index t 1 = t.val % 8 := by decide +kernel
theorem weights_index0 : ∀ t : Fin cfg0.N, win0_1.index t 0 = t.val / 8 % 2 := by decide +kernel
theorem weights_index1 : ∀ t : Fin cfg0.N, win0_1.index t 1 = t.val % 8 := by decide +kernel

theorem rows_at (c : Dev nD) (t : Fin cfg0.N) (r k : Fin 1024) :
    rowsAt V c t (ix2 r k) = at2 (rowsOf V c) (1024 * (t.val / 16) + r.val) (1024 * (t.val % 8) + k.val) := by
  refine (at2_of (rowsOf V c) (((cfg0.win 0).blk t).view.emb (ix2 r k)) ?_ ?_).symm
  · rw [rows_emb, rows_index0]; show t.val / 16 * 1024 + r.val = _; omega
  · rw [rows_emb, rows_index1]; show t.val % 8 * 1024 + k.val = _; omega
theorem weights_at (c : Dev nD) (t : Fin cfg0.N) (s : Fin 2048) (k : Fin 1024) :
    weightsAt V c t (ix2 s k) = at2 (weightsOf V c) (2048 * (t.val / 8 % 2) + s.val) (1024 * (t.val % 8) + k.val) := by
  refine (at2_of (weightsOf V c) (((cfg0.win 1).blk t).view.emb (ix2 s k)) ?_ ?_).symm
  · rw [weights_emb, weights_index0]; show t.val / 8 % 2 * 2048 + s.val = _; omega
  · rw [weights_emb, weights_index1]; show t.val % 8 * 1024 + k.val = _; omega

/-! ## The accumulated block -/

/-- The products of a row of the rows and a row of the weights, by contracted coordinate. -/
def prods (c : Dev nD) (a b k : ℕ) : EReal := at2 (rowsOf V c) a k * at2 (weightsOf V c) b k

/-- What one point adds. -/
theorem point_sum (c : Dev nD) (t : Fin cfg0.N) (r : Fin 1024) (s : Fin 2048) :
    ∑ k : Fin 1024, rowsAt V c t (ix2 r k) * weightsAt V c t (ix2 s k)
      = ∑ k ∈ Finset.range 1024, prods V c (1024 * (t.val / 16) + r.val) (2048 * (t.val / 8 % 2) + s.val) (1024 * (t.val % 8) + k) := by
  rw [← Fin.sum_univ_eq_sum_range (fun k => prods V c (1024 * (t.val / 16) + r.val) (2048 * (t.val / 8 % 2) + s.val) (1024 * (t.val % 8) + k)) 1024]
  exact Finset.sum_congr rfl fun k _ => by rw [rows_at, weights_at]; rfl

/-- After point n the block holds the sum over the contracted coordinates met so far. -/
theorem accAt_sum (c : Dev nD) (r : Fin 1024) (s : Fin 2048) : ∀ (n : ℕ) (h : n < cfg0.N),
    accAt V c n h (ix2 r s) = ∑ k ∈ Finset.range (1024 * (n % 8) + 1024), prods V c (1024 * (n / 16) + r.val) (2048 * (n / 8 % 2) + s.val) k
  | n, h => by
    by_cases h0 : n % 8 = 0
    · rw [accAt_first V c n h h0, added_at, point_sum, cleared_at, zero_add, h0]
      exact Finset.sum_congr rfl fun k _ => by rw [Nat.mul_zero, Nat.zero_add]
    · cases n with
      | zero => exact absurd rfl h0
      | succ n =>
        rw [accAt_next V c n h h0, added_at, point_sum, accAt_sum c r s n (Nat.lt_of_succ_lt h),
          show n / 16 = (n + 1) / 16 by omega, show n / 8 % 2 = (n + 1) / 8 % 2 by omega, show 1024 * (n % 8) + 1024 = 1024 * ((n + 1) % 8) by omega]
        exact (Finset.sum_range_add _ _ _).symm

/-- The half product at a row and a column. -/
theorem half_sum (c : Dev nD) (i : S2048x4096.Idx) :
    half V c i = ∑ k ∈ Finset.range 8192, prods V c (i 0).val (i 1).val k := by
  have h0 : (i 0).val < 2048 := (i 0).isLt
  have h1 : (i 1).val < 4096 := (i 1).isLt
  refine (congrArg (accAt V c (lastOf i) (lastOf_lt i)) (eq_ix2 (within i))).trans ((accAt_sum V c (within i 0) (within i 1) _ _).trans ?_)
  have e0 : 1024 * (lastOf i / 16) + (within i 0).val = (i 0).val := by
    show 1024 * (lastOf i / 16) + (i 0).val % 1024 = _; unfold lastOf; omega
  have e1 : 2048 * (lastOf i / 8 % 2) + (within i 1).val = (i 1).val := by
    show 2048 * (lastOf i / 8 % 2) + (i 1).val % 2048 = _; unfold lastOf; omega
  have e2 : 1024 * (lastOf i % 8) + 1024 = 8192 := by unfold lastOf; omega
  rw [e0, e1, e2]

end Cert.KernelIdeal.Gemm

end
-- ==== Proof.RowsValue.lean ====
/-
  The rows the first kernel reads: device c cuts rows 2048 (c / 2) to 2048 (c / 2) + 2047 out of its block of the first
  operand.
-/
module

public import proofs.«01_k».proof.Proof.GemmValue
public import proofs.«01_k».proof.Proof.Gen.KernelIdeal.Regions
public import Idealize.ShloMosaic.Lib.StableHlo.Run
public import Idealize.ShloMosaic.Lib.DynamicIndex

@[expose] public section

noncomputable section

namespace Cert.KernelIdeal.Gemm

open Idealize.ShloMosaic Idealize.ShloMosaic.TcCoe Idealize.ShloMosaic.ValueIdx Cert.KernelIdeal.Gen

variable (m : (ℓ : Loc nD τ sig) → Buf (Elt Ideal) ℓ)

/-- The first row a device cuts out, as the word the device computes. -/
theorem first_row (c : Dev nD) (z : S_.Idx) :
    (select (cmpi .slt (muli (Host.remui (Host.divui (constantI S_ 32 (Dev.word c)) (constantI S_ 32 2#32)) (constantI S_ 32 2#32)) (constantI S_ 32 2048#32)) (constantI S_ 32 0#32))
      (addi (muli (Host.remui (Host.divui (constantI S_ 32 (Dev.word c)) (constantI S_ 32 2#32)) (constantI S_ 32 2#32)) (constantI S_ 32 2048#32)) (constantI S_ 32 4096#32))
      (muli (Host.remui (Host.divui (constantI S_ 32 (Dev.word c)) (constantI S_ 32 2#32)) (constantI S_ 32 2#32)) (constantI S_ 32 2048#32)) z : BitVec 32).toInt
      = ((2048 * (c.val / 2) : ℕ) : Int) := by
  have h : ∀ c : Fin 4, (Scalar.select (Scalar.cmpi .slt (Scalar.muli (Scalar.remui (Scalar.divui (BitVec.ofNat 32 c.val) 2#32) 2#32) 2048#32) 0#32)
      (Scalar.addi (Scalar.muli (Scalar.remui (Scalar.divui (BitVec.ofNat 32 c.val) 2#32) 2#32) 2048#32) 4096#32)
      (Scalar.muli (Scalar.remui (Scalar.divui (BitVec.ofNat 32 c.val) 2#32) 2#32) 2048#32) : BitVec 32).toInt = ((2048 * (c.val / 2) : ℕ) : Int) := by decide
  exact h c

/-- Where a device's rows begin in its block. -/
abbrev start (c : Dev nD) : Fin 2 → ℕ := ![2048 * (c.val / 2), 0]
theorem start_fits (c : Dev nD) : S4096x8192.Slices (start c) S2048x8192 := by
  revert c; decide

theorem rows_cut (c : Dev nD) : rowsOf (V1 m) c = extractStridedSlice S2048x8192 (start c) (m (c, Proc.devRef .tc main_arg0)) (start_fits c) := by
  show StableHlo.after (hostOps0 c) (V0 m c) (Proc.devRef .tc main_v9) = _
  after_results
  refine Host.dynamicSlice_eq_extractStridedSlice _ _ _ _ _ (start_fits c) fun a => ?_
  match a with
  | ⟨0, _⟩ =>
    show BitVec.toInt (StableHlo.after ((hostOps0 c).take 14) (V0 m c) (Proc.devRef .tc main_v8) (Shape.Idx.first h_S_)) = _
    after_results
    exact first_row c (Shape.Idx.first h_S_)
  | ⟨1, _⟩ =>
    show BitVec.toInt (StableHlo.after ((hostOps0 c).take 14) (V0 m c) (Proc.devRef .tc main_c_4) (Shape.Idx.first h_S_)) = _
    after_results
    rfl

/-- The first operand and the weights of a device. -/
abbrev lhsOf (c : Dev nD) : (⟨2, ![4096, 8192]⟩ : Shape).Idx → EReal := m (c, Proc.devRef .tc main_arg0)
abbrev rhsOf (c : Dev nD) : (⟨2, ![4096, 8192]⟩ : Shape).Idx → EReal := m (c, Proc.devRef .tc main_arg1)

theorem weightsOf_eq (c : Dev nD) : weightsOf (V1 m) c = rhsOf m c := V1_of m c main_arg1 (by decide)

/-- Row a of the rows is row 2048 (c / 2) + a of the operand. -/
theorem rowsOf_at (c : Dev nD) {a k : ℕ} (ha : a < 2048) (hk : k < 8192) :
    at2 (rowsOf (V1 m) c) a k = at2 (lhsOf m c) (2048 * (c.val / 2) + a) k := by
  have hc : c.val < 4 := c.isLt
  rw [at2_of (rowsOf (V1 m) c) (ValueIdx.ix2 ⟨a, ha⟩ ⟨k, hk⟩) rfl rfl, rows_cut,
    at2_of (lhsOf m c) (ValueIdx.ix2 ⟨2048 * (c.val / 2) + a, by omega⟩ ⟨k, hk⟩) rfl rfl]
  refine extractStridedSlice_apply _ _ (start_fits c) _ _ fun b => ?_
  match b with
  | ⟨0, _⟩ => rfl
  | ⟨1, _⟩ => exact (Nat.zero_add k).symm

/-- The products of a row of a device's operand and a row of its weights, by contracted coordinate. -/
def terms (c : Dev nD) (a b k : ℕ) : EReal := at2 (lhsOf m c) a k * at2 (rhsOf m c) b k

/-- The half product of a device, from its operands. -/
theorem half_operands (c : Dev nD) (i : S2048x4096.Idx) :
    half (V1 m) c i = ∑ k ∈ Finset.range 8192, terms m c (2048 * (c.val / 2) + (i 0).val) (i 1).val k := by
  refine (half_sum (V1 m) c i).trans (Finset.sum_congr (M := EReal) rfl fun k hk => ?_)
  unfold prods terms
  rw [rowsOf_at m c (i 0).isLt (Finset.mem_range.mp hk), weightsOf_eq]

end Cert.KernelIdeal.Gemm

end
-- ==== Proof.RefValue.lean ====
/-
  What the reference computes in exact arithmetic: at row a and column b the sum over the 16384 contracted coordinates of
  an element of the first operand times an element of the second.
-/
module

public import proofs.«01_k».proof.Proof.GemmValue
public import proofs.«01_k».proof.Proof.Gen.ReferenceIdeal.Run
public import Idealize.ShloMosaic.Lib.StackMember

@[expose] public section

noncomputable section

namespace Cert.ReferenceIdeal.Product

open Idealize.ShloMosaic Idealize.ShloMosaic.ValueIdx Cert.ReferenceIdeal Cert.ReferenceIdeal.Gen Cert.KernelIdeal.Gemm

/-- An operand of the reference. -/
abbrev Mat : Type := (⟨2, ![4096, 16384]⟩ : Shape).Idx → EReal

/-- The reference's result, as the reference composes it. -/
def result (D W : Mat) : S4096x4096.Idx → EReal :=
  Host.dotGeneral (F := Ideal) (φ₁ := .f32) (φ₂ := .f32) dot_S4096x16384_S16384x4096_S4096x4096_1_0_0_1_n_n none D (transpose S16384x4096 [1, 0] W transposes_S4096x16384_S16384x4096_1_0)

theorem dims : dot_S4096x16384_S16384x4096_S4096x4096_1_0_0_1_n_n = DotDims.plain 4096 16384 4096 := rfl

/-- The products of a row of D and a row of W, by contracted coordinate. -/
def pairs (D W : Mat) (a b k : ℕ) : EReal := at2 D a k * at2 W b k

theorem turned (W : Mat) (k : Fin 16384) (b : Fin 4096) :
    transpose S16384x4096 [1, 0] W transposes_S4096x16384_S16384x4096_1_0 (ix2 k b) = W (ix2 b k) :=
  transpose_apply _ W _ _ _ fun p => match p with
    | ⟨0, _⟩ => rfl
    | ⟨1, _⟩ => rfl

theorem result_at (D W : Mat) (a b : Fin 4096) : result D W (ix2 a b) = ∑ k ∈ Finset.range 16384, pairs D W a.val b.val k := by
  unfold result
  rw [dims]
  refine (StackMember.dotGeneral_plain_apply none D _ a b).trans ?_
  rw [← Fin.sum_univ_eq_sum_range (fun k => pairs D W a.val b.val k) 16384]
  refine Finset.sum_congr (M := EReal) rfl fun k _ => ?_
  rw [turned]
  unfold pairs
  rw [at2_of D (ix2 a k) rfl rfl, at2_of W (ix2 b k) rfl rfl]

end Cert.ReferenceIdeal.Product

end
-- ==== Proof.Value.lean ====
/-
  The equation: every device's result is the reference's.

  Device c = 2 x + y holds columns 8192 y to 8192 y + 8191 of both operands. The two devices of a row block hold the two
  halves of the contracted axis, so the two half products add up to the whole product, in either order.
-/
module

public import proofs.«01_k».proof.Proof.RowsValue
public import proofs.«01_k».proof.Proof.RefValue
public import proofs.«01_k».proof.Proof.Run
public import Idealize.ShloMosaic.Lib.Layout

@[expose] public section

noncomputable section

namespace Cert.KernelIdeal.Run

open Idealize.ShloMosaic Idealize.ShloMosaic.TcCoe Cert.KernelIdeal.Gen Cert.KernelIdeal.Comm Cert.KernelIdeal.Gemm
open Cert.ReferenceIdeal.Product (Mat result result_at pairs)

/-- The place of a device's block among an operand's blocks. -/
abbrev placeOf (c : Dev nD) := Layout.meshBlock [2, 2] ![[], [1]] c
/-- The block of an operand that a device holds. -/
abbrev heldOf (D : Mat) (c : Dev nD) : (⟨2, ![4096, 8192]⟩ : Shape).Idx → EReal :=
  Layout.blockN ⟨2, ![4096, 8192]⟩ ⟨2, ![4096, 16384]⟩ (Layout.meshBlock [2, 2] ![[], [1]] c) D

theorem across (c : Dev nD) : (placeOf c 1).val = c.val % 2 := by revert c; decide
theorem down (c : Dev nD) : (placeOf c 0).val = 0 := by revert c; decide

/-- An element of the block is the operand's, 8192 (c mod 2) columns along. -/
theorem held_at (D : Mat) (c : Dev nD) {a k : ℕ} (ha : a < 4096) (hk : k < 8192) :
    at2 (heldOf D c) a k = at2 D a (8192 * (c.val % 2) + k) := by
  refine (at2_of (heldOf D c) (ValueIdx.ix2 ⟨a, ha⟩ ⟨k, hk⟩) rfl rfl).trans ?_
  refine (at2_of D _ ?_ ?_).symm
  · rw [Layout.TilesN.idx_val]
    show (placeOf c 0).val * 4096 + a = a
    rw [down, Nat.zero_mul, Nat.zero_add]
  · rw [Layout.TilesN.idx_val]
    show (placeOf c 1).val * 8192 + k = _
    rw [across, Nat.mul_comm]

variable (m : (ℓ : Loc nD τ sig) → Buf (Elt Ideal) ℓ) (D W : Mat)

/-- The half product of a device, from the whole operands. -/
theorem half_whole (hD : ∀ c, lhsOf m c = heldOf D c) (hW : ∀ c, rhsOf m c = heldOf W c) (c : Dev nD) (i : S2048x4096.Idx) :
    half (V1 m) c i = ∑ k ∈ Finset.range 8192, pairs D W (2048 * (c.val / 2) + (i 0).val) (i 1).val (8192 * (c.val % 2) + k) := by
  have hc : c.val < 4 := c.isLt
  have h0 : (i 0).val < 2048 := (i 0).isLt
  refine (half_operands m c i).trans (Finset.sum_congr (M := EReal) rfl fun k hk => ?_)
  unfold terms pairs
  rw [hD, hW, held_at D c (by omega) (Finset.mem_range.mp hk), held_at W c (i 1).isLt (Finset.mem_range.mp hk)]

/-- The two halves of an axis, in order; -/
theorem halves (f : ℕ → EReal) (n : ℕ) :
    ∑ k ∈ Finset.range (n + n), f k = ∑ k ∈ Finset.range n, f (n * 0 + k) + ∑ k ∈ Finset.range n, f (n * 1 + k) := by
  simp only [Finset.sum_range_add, Nat.mul_zero, Nat.zero_add, Nat.mul_one]
/-- in either order. -/
theorem two_halves (f : ℕ → EReal) (y : ℕ) (hy : y < 2) :
    ∑ k ∈ Finset.range 8192, f (8192 * y + k) + ∑ k ∈ Finset.range 8192, f (8192 * (1 - y) + k) = ∑ k ∈ Finset.range 16384, f k := by
  have h := halves f 8192
  obtain rfl | rfl : y = 0 ∨ y = 1 := by omega
  · rw [h, Nat.sub_zero]
  · rw [h, Nat.sub_self, add_comm]

/-- Every device's result is the reference's. -/
theorem value (hD : ∀ c, lhsOf m c = heldOf D c) (hW : ∀ c, rhsOf m c = heldOf W c) (c : Dev nD) :
    outv (part m) c = result D W := by
  refine funext fun (i : S4096x4096.Idx) => ?_
  have h0 : (i 0).val < 4096 := (i 0).isLt
  have hc : c.val < 4 := c.isLt
  rw [ValueIdx.eq_ix2 i]
  refine Eq.trans ?_ (result_at D W (i 0) (i 1)).symm
  refine Eq.trans (congrArg₂ (fun x y : EReal => x + y) (half_whole m D W hD hW (rowDev c (i 0)) _) (half_whole m D W hD hW (yn (rowDev c (i 0))) _)) ?_
  refine Eq.trans ?_ (two_halves (fun k => pairs D W (i 0).val (i 1).val k) (c.val % 2) (by omega))
  have e : (rowDev c (i 0)).val = 2 * ((i 0).val / 2048) + c.val % 2 := rfl
  have e' : (yn (rowDev c (i 0))).val = 2 * ((rowDev c (i 0)).val / 2) + 1 - (rowDev c (i 0)).val % 2 := rfl
  have r : 2048 * ((rowDev c (i 0)).val / 2) + (i 0).val % 2048 = (i 0).val := by omega
  have r' : 2048 * ((yn (rowDev c (i 0))).val / 2) + (i 0).val % 2048 = (i 0).val := by omega
  have s : (rowDev c (i 0)).val % 2 = c.val % 2 := by omega
  have s' : (yn (rowDev c (i 0))).val % 2 = 1 - c.val % 2 := by omega
  show (∑ k ∈ Finset.range 8192, pairs D W (2048 * ((rowDev c (i 0)).val / 2) + (i 0).val % 2048) (i 1).val (8192 * ((rowDev c (i 0)).val % 2) + k) : EReal)
      + ∑ k ∈ Finset.range 8192, pairs D W (2048 * ((yn (rowDev c (i 0))).val / 2) + (i 0).val % 2048) (i 1).val (8192 * ((yn (rowDev c (i 0))).val % 2) + k) = _
  rw [r, r', s, s']

end Cert.KernelIdeal.Run

end
-- ==== Proof.SameBodies.lean ====
/-
  The kernels of the two printed programs, the one over words and the one in exact arithmetic, are the same over words.
-/
module

public import proofs.«01_k».proof.Defs
public import proofs.«01_k».proof.Proof.Gen.Kernel
public import proofs.«01_k».proof.Proof.Gen.KernelIdeal

@[expose] public section

namespace Cert.Proof

open Idealize.ShloMosaic

/-- The kernels' bodies are the same, kernel by kernel; -/
theorem bodies_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | ⟨0, _⟩, (t, s) => rfl
  | ⟨1, _⟩, (t, s) => rfl
/-- and so are the programs' tables. -/
theorem defs_same : Cert.Kernel.defs (F := Bits) = Cert.KernelIdeal.defs (F := Bits) :=
  congrArg (Pipeline.defs (Cert.KernelIdeal.pcfgs (F := Bits))) bodies_same

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.SameBodies
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel on words: every execution ends, the operands unchanged, every semaphore at zero. The run is stated for
    the other printed program, which over words is the same one. -/
theorem frame_kernel : Cert.quiescent_Kernel := fun m ρ _ => by
  rw [defs_same]
  exact (θ_run Cert.KernelIdeal.defs _ _).mono (fun _ h => ⟨fun c => ⟨(h.1 c).1, (h.1 c).2.1⟩, h.2⟩)
    (Cert.KernelIdeal.Run.run_main (F := Bits) m ρ)

/-- The same in exact arithmetic. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Cert.KernelIdeal.Run.run_main (F := Ideal) m ρ)

/-- The reference declares no semaphore and writes no operand. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- In exact arithmetic every device of the kernel ends with the reference's result. -/
theorem algebraic : Cert.algebraic_KernelIdeal_ReferenceIdeal := fun m ρ m' ρ' _ agree =>
  ⟨_, (θ_run Cert.KernelIdeal.defs _ _).mono
      (fun _ h c => ⟨(h.1 c).2.2.trans (Cert.KernelIdeal.Run.value m _ _ (fun d => (agree d).1) (fun d => (agree d).2) c), (h.1 c).1, (h.1 c).2.1⟩)
      (Cert.KernelIdeal.Run.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
